-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qkv_is_finite [hPre_qkv_is_finite : Cert.Pre_qkv_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qkv_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qkv_is_finite [hPre_qkv_is_finite : Cert.Pre_qkv_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qkv_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_qkv_is_finite [hKernelIdeal : Cert.KernelIdeal.Facts] [hPre_qkv_is_finite : Cert.Pre_qkv_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qkv_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_qkv_is_finite [hReferenceIdeal : Cert.ReferenceIdeal.Facts] [hPre_qkv_is_finite : Cert.Pre_qkv_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qkv_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6)
      ∧ r.2.mem ((c.tc : Thread Cert.Gmlp.nD Cert.Gmlp.τ).loc Cert.Gmlp.main_arg7) = m ((c.tc : Thread Cert.Gmlp.nD Cert.Gmlp.τ).loc Cert.Gmlp.main_arg7))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
      ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6)
      ∧ r.2.mem ((c.tc : Thread Cert.GmlpRefIdeal.nD Cert.GmlpRefIdeal.τ).loc Cert.GmlpRefIdeal.main_arg7) = m ((c.tc : Thread Cert.GmlpRefIdeal.nD Cert.GmlpRefIdeal.τ).loc Cert.GmlpRefIdeal.main_arg7))
      ∧ r.2.sem = fun _ => 0)

def preserves_Kernel_KernelIdeal : Prop :=
  True

def algebraic_KernelIdeal_ReferenceIdeal_pre_qkv_is_finite [hKernelIdeal : Cert.KernelIdeal.Facts] [hReferenceIdeal : Cert.ReferenceIdeal.Facts] [hPre_qkv_is_finite : Cert.Pre_qkv_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qkv_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v33) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v82) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v2)) (v1 : (c : Dev Cert.QkvIdeal.nD) → Buf (Elt Ideal) ((c.tc : Thread Cert.QkvIdeal.nD Cert.QkvIdeal.τ).loc Cert.QkvIdeal.main_v4)) (v2 : (c : Dev Cert.QkvIdeal.nD) → Buf (Elt Ideal) ((c.tc : Thread Cert.QkvIdeal.nD Cert.QkvIdeal.τ).loc Cert.QkvIdeal.main_v6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_v4) = v1 c
          ∧ r.2.mem ((c.tc : Thread Cert.QkvIdeal.nD Cert.QkvIdeal.τ).loc Cert.QkvIdeal.main_v6) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v66) = v0 c
          ∧ r.2.mem ((c.tc : Thread Cert.QkvRefIdeal.nD Cert.QkvRefIdeal.τ).loc Cert.QkvRefIdeal.main_v67) = v1 c
          ∧ r.2.mem ((c.tc : Thread Cert.QkvRefIdeal.nD Cert.QkvRefIdeal.τ).loc Cert.QkvRefIdeal.main_v68) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)) (v1 : (c : Dev Cert.NormIdeal.nD) → Buf (Elt Ideal) ((c.tc : Thread Cert.NormIdeal.nD Cert.NormIdeal.τ).loc Cert.NormIdeal.main_v5)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_v5) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_v29) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)
      ∧ m' ((c.tc : Thread Cert.GmlpRefIdeal.nD Cert.GmlpRefIdeal.τ).loc Cert.GmlpRefIdeal.main_arg7) = m ((c.tc : Thread Cert.GmlpIdeal.nD Cert.GmlpIdeal.τ).loc Cert.GmlpIdeal.main_arg7)) →
    ∃ (v0 : (c : Dev Cert.GmlpIdeal.nD) → Buf (Elt Ideal) ((c.tc : Thread Cert.GmlpIdeal.nD Cert.GmlpIdeal.τ).loc Cert.GmlpIdeal.main_v8)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v8) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
          ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v162) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6)
          ∧ r.2.mem ((c.tc : Thread Cert.GmlpRefIdeal.nD Cert.GmlpRefIdeal.τ).loc Cert.GmlpRefIdeal.main_arg7) = m' ((c.tc : Thread Cert.GmlpRefIdeal.nD Cert.GmlpRefIdeal.τ).loc Cert.GmlpRefIdeal.main_arg7))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hNorm : Cert.Norm.Facts) (hNormIdeal : Cert.NormIdeal.Facts) (hNormRefIdeal : Cert.NormRefIdeal.Facts) (hGmlp : Cert.Gmlp.Facts) (hGmlpIdeal : Cert.GmlpIdeal.Facts) (hGmlpRefIdeal : Cert.GmlpRefIdeal.Facts) (hPre_qkv_is_finite : Cert.Pre_qkv_is_finite.Facts) (hPre_experts_in_range : Cert.Pre_experts_in_range.Facts),
    quiescent_Kernel (hKernel := hKernel)
    ∧ quiescent_KernelIdeal (hKernelIdeal := hKernelIdeal)
    ∧ quiescent_KernelIdeal_pre_qkv_is_finite (hKernelIdeal := hKernelIdeal) (hPre_qkv_is_finite := hPre_qkv_is_finite)
    ∧ quiescent_ReferenceIdeal (hReferenceIdeal := hReferenceIdeal)
    ∧ quiescent_ReferenceIdeal_pre_qkv_is_finite (hReferenceIdeal := hReferenceIdeal) (hPre_qkv_is_finite := hPre_qkv_is_finite)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Norm (hNorm := hNorm)
    ∧ quiescent_NormIdeal (hNormIdeal := hNormIdeal)
    ∧ quiescent_NormRefIdeal (hNormRefIdeal := hNormRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ preserves_Kernel_KernelIdeal
    ∧ algebraic_KernelIdeal_ReferenceIdeal_pre_qkv_is_finite (hKernelIdeal := hKernelIdeal) (hReferenceIdeal := hReferenceIdeal) (hPre_qkv_is_finite := hPre_qkv_is_finite)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Norm_NormIdeal
    ∧ algebraic_NormIdeal_NormRefIdeal (hNormIdeal := hNormIdeal) (hNormRefIdeal := hNormRefIdeal)
    ∧ preserves_Gmlp_GmlpIdeal
    ∧ algebraic_GmlpIdeal_GmlpRefIdeal (hGmlpIdeal := hGmlpIdeal) (hGmlpRefIdeal := hGmlpRefIdeal)
-- ==== Pre_experts_in_range.lean ====
abbrev S136 : Shape := ⟨1, ![136]⟩
abbrev S34816x8x128 : Shape := ⟨3, ![34816, 8, 128]⟩
abbrev S8x1024x5632 : Shape := ⟨3, ![8, 1024, 5632]⟩
abbrev S8x2816x1024 : Shape := ⟨3, ![8, 2816, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S136 32) (main_arg2 : FVec F S34816x8x128 .f32) (main_arg3 : FVec F S8x1024x5632 .bf16) (main_arg4 : FVec F S8x2816x1024 .bf16) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_qkv_is_finite.lean ====
abbrev S16384x3072 : Shape := ⟨2, ![16384, 3072]⟩
abbrev S4x64 : Shape := ⟨2, ![4, 64]⟩
abbrev S128 : Shape := ⟨1, ![128]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel

variable [Facts]

def fn {F : FTy → Type} [FloatOps F] (main_arg0 : FVec F S16384x3072 .f32) (main_arg1 : FVec F S4x64 .f32) (main_arg2 : FVec F S128 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  main_v3
-- ==== Kernel.lean ====
abbrev S16384x3072 : Shape := ⟨2, ![16384, 3072]⟩
abbrev S4x64 : Shape := ⟨2, ![4, 64]⟩
abbrev S128 : Shape := ⟨1, ![128]⟩
abbrev S1x128 : Shape := ⟨2, ![1, 128]⟩
abbrev S8192x1024 : Shape := ⟨2, ![8192, 1024]⟩
abbrev S256x1024 : Shape := ⟨2, ![256, 1024]⟩
abbrev S8x256x128 : Shape := ⟨3, ![8, 256, 128]⟩
abbrev S256x128 : Shape := ⟨2, ![256, 128]⟩
abbrev S1x256x128 : Shape := ⟨3, ![1, 256, 128]⟩
abbrev S1x64 : Shape := ⟨2, ![1, 64]⟩
abbrev S1 : Shape := ⟨1, ![1]⟩
abbrev S1x1 : Shape := ⟨2, ![1, 1]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 12
  | .smem => 0
  | _ => 0

abbrev bufTy : (tb : Table) → Fin (tcTables nBuf tb) → BufTy
  | .hbm, ⟨0, _⟩ => ⟨S16384x3072, .f32⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S8192x1024, .bf16⟩
  | .local _ .vmem, ⟨0, _⟩ => ⟨S4x64, .f32⟩
  | .local _ .vmem, ⟨1, _⟩ => ⟨S1x128, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S8x256x128, .bf16⟩
  | .local _ .vmem, ⟨11, _⟩ => ⟨S8x256x128, .bf16⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.addi c1_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c2_i32 : BitVec 32 := 2#32
  let v1 : BitVec 32 := Scalar.addi c2_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x3072 : Shape := ⟨2, ![16384, 3072]⟩
abbrev S4x64 : Shape := ⟨2, ![4, 64]⟩
abbrev S128 : Shape := ⟨1, ![128]⟩
abbrev S8192x3072 : Shape := ⟨2, ![8192, 3072]⟩
abbrev S32x256x3072 : Shape := ⟨3, ![32, 256, 3072]⟩
abbrev S32x256x1024 : Shape := ⟨3, ![32, 256, 1024]⟩
abbrev S32x256x8x2x64 : Shape := ⟨5, ![32, 256, 8, 2, 64]⟩
abbrev S32x256x8x128 : Shape := ⟨4, ![32, 256, 8, 128]⟩
abbrev S1x64 : Shape := ⟨2, ![1, 64]⟩
abbrev S64 : Shape := ⟨1, ![64]⟩
abbrev S_ : Shape := ⟨0, ![]⟩
abbrev S32x8x2x256x256 : Shape := ⟨5, ![32, 8, 2, 256, 256]⟩
abbrev S32x8x2x256 : Shape := ⟨4, ![32, 8, 2, 256]⟩
abbrev S32x8x2x256x1 : Shape := ⟨5, ![32, 8, 2, 256, 1]⟩
abbrev S32x8x1x256x256 : Shape := ⟨5, ![32, 8, 1, 256, 256]⟩
abbrev S32x8x256x256 : Shape := ⟨4, ![32, 8, 256, 256]⟩
abbrev S32x8x128x256 : Shape := ⟨4, ![32, 8, 128, 256]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S8192x1024 : Shape := ⟨2, ![8192, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S4x64, .f32⟩
  | .hbm, ⟨2, _⟩ => ⟨S128, .f32⟩
  | .hbm, ⟨3, _⟩ => ⟨S8192x3072, .f32⟩
  | .hbm, ⟨4, _⟩ => ⟨S32x256x3072, .f32⟩
  | .hbm, ⟨5, _⟩ => ⟨S32x256x1024, .f32⟩
  | .hbm, ⟨6, _⟩ => ⟨S32x256x1024, .f32⟩
  | .hbm, ⟨7, _⟩ => ⟨S32x256x1024, .f32⟩
  | .hbm, ⟨8, _⟩ => ⟨S32x256x8x2x64, .f32⟩
  | .hbm, ⟨9, _⟩ => ⟨S32x256x8x2x64, .f32⟩
  | .hbm, ⟨10, _⟩ => ⟨S32x256x8x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x8x2x256x256, .f32⟩
  | .hbm, ⟨31, _⟩ => ⟨S_, .f32⟩
  | .hbm, ⟨32, _⟩ => ⟨S32x8x2x256x256, .f32⟩
  | .hbm, ⟨33, _⟩ => ⟨S32x8x2x256x256, .f32⟩
  | .hbm, ⟨34, _⟩ => ⟨S_, .f32⟩
  | .hbm, ⟨35, _⟩ => ⟨S32x8x2x256, .f32⟩
  | .hbm, ⟨36, _⟩ => ⟨S_, .f32⟩
  | .hbm, ⟨37, _⟩ => ⟨S32x8x2x256, .f32⟩
  | .hbm, ⟨38, _⟩ => ⟨S32x8x2x256, .f32⟩
  | .hbm, ⟨39, _⟩ => ⟨S32x8x2x256x1, .f32⟩
  | .hbm, ⟨40, _⟩ => ⟨S32x8x2x256x256, .f32⟩
  | .hbm, ⟨41, _⟩ => ⟨S32x8x2x256x256, .f32⟩
  | .hbm, ⟨42, _⟩ => ⟨S32x8x2x256x256, .f32⟩
  | .hbm, ⟨43, _⟩ => ⟨S_, .f32⟩
  | .hbm, ⟨44, _⟩ => ⟨S32x8x2x256, .f32⟩
  | .hbm, ⟨45, _⟩ => ⟨S32x8x2x256x1, .f32⟩
  | .hbm, ⟨46, _⟩ => ⟨S32x8x2x256x256, .f32⟩
  | .hbm, ⟨47, _⟩ => ⟨S32x8x2x256x256, .f32⟩
  | .hbm, ⟨48, _⟩ => ⟨S32x8x1x256x256, .f32⟩
  | .hbm, ⟨49, _⟩ => ⟨S32x8x256x256, .f32⟩
  | .hbm, ⟨50, _⟩ => ⟨S32x8x1x256x256, .f32⟩
  | .hbm, ⟨51, _⟩ => ⟨S32x8x256x256, .f32⟩
  | .hbm, ⟨52, _⟩ => ⟨S32x8x256x256, .f32⟩
  | .hbm, ⟨53, _⟩ => ⟨S32x8x256x256, .f32⟩
  | .hbm, ⟨54, _⟩ => ⟨S32x8x256x256, .f32⟩
  | .hbm, ⟨55, _⟩ => ⟨S32x8x128x256, .f32⟩
  | .hbm, ⟨56, _⟩ => ⟨S32x256x8x128, .f32⟩
  | .hbm, ⟨57, _⟩ => ⟨S32x256x8x128, .f32⟩
  | .hbm, ⟨58, _⟩ => ⟨S_, .f32⟩
  | .hbm, ⟨59, _⟩ => ⟨S32x256x8, .f32⟩
  | .hbm, ⟨60, _⟩ => ⟨S32x256x8x1, .f32⟩
  | .hbm, ⟨61, _⟩ => ⟨S_, .f32⟩
  | .hbm, ⟨62, _⟩ => ⟨S32x256x8x1, .f32⟩
  | .hbm, ⟨63, _⟩ => ⟨S32x256x8x1, .f32⟩
  | .hbm, ⟨64, _⟩ => ⟨S_, .f32⟩
  | .hbm, ⟨65, _⟩ => ⟨S32x256x8x1, .f32⟩
  | .hbm, ⟨66, _⟩ => ⟨S32x256x8x1, .f32⟩
  | .hbm, ⟨67, _⟩ => ⟨S32x256x8x1, .f32⟩
  | .hbm, ⟨68, _⟩ => ⟨S32x256x8x128, .f32⟩
  | .hbm, ⟨69, _⟩ => ⟨S32x256x8x128, .f32⟩
  | .hbm, ⟨70, _⟩ => ⟨S1x1x1x128, .f32⟩
  | .hbm, ⟨71, _⟩ => ⟨S32x256x8x128, .f32⟩
  | .hbm, ⟨72, _⟩ => ⟨S32x256x8x128, .f32⟩
  | .hbm, ⟨73, _⟩ => ⟨S_, .f32⟩
  | .hbm, ⟨74, _⟩ => ⟨S32x256x8x128, .f32⟩
  | .hbm, ⟨75, _⟩ => ⟨S32x256x8x128, .f32⟩
  | .hbm, ⟨76, _⟩ => ⟨S8192x1024, .f32⟩
  | .hbm, ⟨77, _⟩ => ⟨S8192x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Experts.lean ====
abbrev S136 : Shape := ⟨1, ![136]⟩
abbrev S34816x8x128 : Shape := ⟨3, ![34816, 8, 128]⟩
abbrev S8x1024x5632 : Shape := ⟨3, ![8, 1024, 5632]⟩
abbrev S8x2816x1024 : Shape := ⟨3, ![8, 2816, 1024]⟩
abbrev S256x8x128 : Shape := ⟨3, ![256, 8, 128]⟩
abbrev S1x1024x5632 : Shape := ⟨3, ![1, 1024, 5632]⟩
abbrev S1 : Shape := ⟨1, ![1]⟩
abbrev S1x2816x1024 : Shape := ⟨3, ![1, 2816, 1024]⟩
abbrev S256x1024 : Shape := ⟨2, ![256, 1024]⟩
abbrev S256x2816 : Shape := ⟨2, ![256, 2816]⟩
abbrev S256x1x128 : Shape := ⟨3, ![256, 1, 128]⟩
abbrev S256x128 : Shape := ⟨2, ![256, 128]⟩
abbrev S1x1024x256 : Shape := ⟨3, ![1, 1024, 256]⟩
abbrev S1024x256 : Shape := ⟨2, ![1024, 256]⟩
abbrev S256x256 : Shape := ⟨2, ![256, 256]⟩
abbrev S2816x1024 : Shape := ⟨2, ![2816, 1024]⟩

abbrev nBuf : Space → Nat
  | .hbm => 4
  | .vmem => 10
  | .smem => 2
  | _ => 0

abbrev bufTy : (tb : Table) → Fin (tcTables nBuf tb) → BufTy
  | .hbm, ⟨0, _⟩ => ⟨S34816x8x128, .f32⟩
  | .hbm, ⟨1, _⟩ => ⟨S8x1024x5632, .bf16⟩
  | .hbm, ⟨2, _⟩ => ⟨S8x2816x1024, .bf16⟩
  | .hbm, ⟨3, _⟩ => ⟨S34816x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1024x5632, .bf16⟩
  | .local _ .vmem, ⟨3, _⟩ => ⟨S1x1024x5632, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S256x8x128, .f32⟩
  | .local _ .vmem, ⟨7, _⟩ => ⟨S256x8x128, .f32⟩
  | .local _ .vmem, ⟨8, _⟩ => ⟨S256x1024, .bf16⟩
  | .local _ .vmem, ⟨9, _⟩ => ⟨S256x2816, .bf16⟩
  | .local _ .smem, ⟨0, _⟩ => ⟨S136, .i32⟩
  | .local _ .smem, ⟨1, _⟩ => ⟨S136, .i32⟩
  | _, _ => ⟨S34816x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v1 : BitVec 32) : BitVec 1 :=
  let c1_i32 : BitVec 32 := 1#32
  let v2 : BitVec 1 := Scalar.cmpi .eq v1 c1_i32
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsRefIdeal.lean ====
abbrev S136 : Shape := ⟨1, ![136]⟩
abbrev S34816x8x128 : Shape := ⟨3, ![34816, 8, 128]⟩
abbrev S8x1024x5632 : Shape := ⟨3, ![8, 1024, 5632]⟩
abbrev S8x2816x1024 : Shape := ⟨3, ![8, 2816, 1024]⟩
abbrev S34816x1024 : Shape := ⟨2, ![34816, 1024]⟩
abbrev S136x1 : Shape := ⟨2, ![136, 1]⟩
abbrev S136x256 : Shape := ⟨2, ![136, 256]⟩
abbrev S34816 : Shape := ⟨1, ![34816]⟩
abbrev S1x34816 : Shape := ⟨2, ![1, 34816]⟩
abbrev S8 : Shape := ⟨1, ![8]⟩
abbrev S8x1 : Shape := ⟨2, ![8, 1]⟩
abbrev S8x34816 : Shape := ⟨2, ![8, 34816]⟩
abbrev S_ : Shape := ⟨0, ![]⟩
abbrev S8x5632x34816 : Shape := ⟨3, ![8, 5632, 34816]⟩
abbrev S8x34816x5632 : Shape := ⟨3, ![8, 34816, 5632]⟩
abbrev S8x34816x2816 : Shape := ⟨3, ![8, 34816, 2816]⟩
abbrev S8x34816x1024 : Shape := ⟨3, ![8, 34816, 1024]⟩
abbrev S8x34816x1 : Shape := ⟨3, ![8, 34816, 1]⟩

abbrev nBuf : Space → Nat
  | .hbm => 53
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S34816x8x128, .f32⟩
  | .hbm, ⟨3, _⟩ => ⟨S8x1024x5632, .bf16⟩
  | .hbm, ⟨4, _⟩ => ⟨S8x2816x1024, .bf16⟩
  | .hbm, ⟨5, _⟩ => ⟨S34816x1024, .f32⟩
  | .hbm, ⟨6, _⟩ => ⟨S136x1, .i32⟩
  | .hbm, ⟨7, _⟩ => ⟨S136x256, .i32⟩
  | .hbm, ⟨8, _⟩ => ⟨S34816, .i32⟩
  | .hbm, ⟨9, _⟩ => ⟨S136x1, .i32⟩
  | .hbm, ⟨10, _⟩ => ⟨S136x256, .i32⟩
  | .hbm, ⟨11, _⟩ => ⟨S34816, .i32⟩
  | .hbm, ⟨12, _⟩ => ⟨S1x34816, .i32⟩
  | .hbm, ⟨13, _⟩ => ⟨S8, .i32⟩
  | .hbm, ⟨14, _⟩ => ⟨S8x1, .i32⟩
  | .hbm, ⟨15, _⟩ => ⟨S8x34816, .i32⟩
  | .hbm, ⟨16, _⟩ => ⟨S8x34816, .i32⟩
  | .hbm, ⟨17, _⟩ => ⟨S8x34816, .i1⟩
  | .hbm, ⟨18, _⟩ => ⟨S1x34816, .i32⟩
  | .hbm, ⟨19, _⟩ => ⟨S_, .i32⟩
  | .hbm, ⟨20, _⟩ => ⟨S1x34816, .i32⟩
  | .hbm, ⟨21, _⟩ => ⟨S1x34816, .i1⟩
  | .hbm, ⟨22, _⟩ => ⟨S8x34816, .i1⟩
  | .hbm, ⟨23, _⟩ => ⟨S8x34816, .i1⟩
  | .hbm, ⟨24, _⟩ => ⟨S_, .f32⟩
  | .hbm, ⟨25, _⟩ => ⟨S_, .f32⟩
  | .hbm, ⟨26, _⟩ => ⟨S8x34816, .f32⟩
  | .hbm, ⟨27, _⟩ => ⟨S8x34816, .f32⟩
  | .hbm, ⟨28, _⟩ => ⟨S8x34816, .f32⟩
  | .hbm, ⟨29, _⟩ => ⟨S8x1024x5632, .f32⟩
  | .hbm, ⟨30, _⟩ => ⟨S8x5632x34816, .f32⟩
  | .hbm, ⟨31, _⟩ => ⟨S8x34816x5632, .f32⟩
  | .hbm, ⟨32, _⟩ => ⟨S8x34816x2816, .f32⟩
  | .hbm, ⟨33, _⟩ => ⟨S8x34816x2816, .f32⟩
  | .hbm, ⟨34, _⟩ => ⟨S8x34816x2816, .f32⟩
  | .hbm, ⟨35, _⟩ => ⟨S8x34816x2816, .f32⟩
  | .hbm, ⟨36, _⟩ => ⟨S_, .f32⟩
  | .hbm, ⟨37, _⟩ => ⟨S8x34816x2816, .f32⟩
  | .hbm, ⟨38, _⟩ => ⟨S8x34816x2816, .f32⟩
  | .hbm, ⟨39, _⟩ => ⟨S_, .f32⟩
  | .hbm, ⟨40, _⟩ => ⟨S8x34816x2816, .f32⟩
  | .hbm, ⟨41, _⟩ => ⟨S8x34816x2816, .f32⟩
  | .hbm, ⟨42, _⟩ => ⟨S8x34816x2816, .f32⟩
  | .hbm, ⟨43, _⟩ => ⟨S8x34816x2816, .f32⟩
  | .hbm, ⟨44, _⟩ => ⟨S8x2816x1024, .f32⟩
  | .hbm, ⟨45, _⟩ => ⟨S8x34816x1024, .f32⟩
  | .hbm, ⟨46, _⟩ => ⟨S8x34816x1, .f32⟩
  | .hbm, ⟨47, _⟩ => ⟨S8x34816x1, .f32⟩
  | .hbm, ⟨48, _⟩ => ⟨S8x34816x1024, .f32⟩
  | .hbm, ⟨49, _⟩ => ⟨S8x34816x1024, .f32⟩
  | .hbm, ⟨50, _⟩ => ⟨S_, .f32⟩
  | .hbm, ⟨51, _⟩ => ⟨S34816x1024, .f32⟩
  | .hbm, ⟨52, _⟩ => ⟨S34816x8x128, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S8x6x1024 : Shape := ⟨3, ![8, 6, 1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1x6x1024 : Shape := ⟨3, ![1, 6, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x6x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024 : Shape := ⟨1, ![1024]⟩
abbrev S8x6x1024 : Shape := ⟨3, ![8, 6, 1024]⟩
abbrev S1024x5632 : Shape := ⟨2, ![1024, 5632]⟩
abbrev S2816x1024 : Shape := ⟨2, ![2816, 1024]⟩
abbrev S8192x1024 : Shape := ⟨2, ![8192, 1024]⟩
abbrev S32x256x1024 : Shape := ⟨3, ![32, 256, 1024]⟩
abbrev S1x6x1024 : Shape := ⟨3, ![1, 6, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1x1024 : Shape := ⟨2, ![1, 1024]⟩
abbrev S32x256x5632 : Shape := ⟨3, ![32, 256, 5632]⟩
abbrev S32x256x2816 : Shape := ⟨3, ![32, 256, 2816]⟩
abbrev S4x2048x1024 : Shape := ⟨3, ![4, 2048, 1024]⟩
abbrev S4x6x1024 : Shape := ⟨3, ![4, 6, 1024]⟩
abbrev S4x2048 : Shape := ⟨2, ![4, 2048]⟩
abbrev S4x2048x1 : Shape := ⟨3, ![4, 2048, 1]⟩
abbrev S4x1x1024 : Shape := ⟨3, ![4, 1, 1024]⟩
abbrev S4x1024 : Shape := ⟨2, ![4, 1024]⟩
abbrev S4x2048x5632 : Shape := ⟨3, ![4, 2048, 5632]⟩
abbrev S4x2048x2816 : Shape := ⟨3, ![4, 2048, 2816]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x6x1024, .f32⟩
  | .hbm, ⟨3, _⟩ => ⟨S1024x5632, .f32⟩
  | .hbm, ⟨4, _⟩ => ⟨S2816x1024, .f32⟩
  | .hbm, ⟨5, _⟩ => ⟨S8192x1024, .f32⟩
  | .hbm, ⟨6, _⟩ => ⟨S32x256x1024, .f32⟩
  | .hbm, ⟨7, _⟩ => ⟨S1x6x1024, .f32⟩
  | .hbm, ⟨8, _⟩ => ⟨S32x256x1024, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x1024, .f32⟩
  | .hbm, ⟨20, _⟩ => ⟨S32x256x1024, .f32⟩
  | .hbm, ⟨21, _⟩ => ⟨S1x1x1024, .f32⟩
  | .hbm, ⟨22, _⟩ => ⟨S32x256x1024, .f32⟩
  | .hbm, ⟨23, _⟩ => ⟨S32x256x1024, .f32⟩
  | .hbm, ⟨24, _⟩ => ⟨S1x1x1024, .f32⟩
  | .hbm, ⟨25, _⟩ => ⟨S1x1024, .f32⟩
  | .hbm, ⟨26, _⟩ => ⟨S1x1x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S32x256x1024, .f32⟩
  | .hbm, ⟨31, _⟩ => ⟨S32x256x1024, .f32⟩
  | .hbm, ⟨32, _⟩ => ⟨S1x1x1024, .f32⟩
  | .hbm, ⟨33, _⟩ => ⟨S1x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S32x256x5632, .f32⟩
  | .hbm, ⟨41, _⟩ => ⟨S32x256x2816, .f32⟩
  | .hbm, ⟨42, _⟩ => ⟨S32x256x2816, .f32⟩
  | .hbm, ⟨43, _⟩ => ⟨S32x256x2816, .f32⟩
  | .hbm, ⟨44, _⟩ => ⟨S32x256x2816, .f32⟩
  | .hbm, ⟨45, _⟩ => ⟨S_, .f32⟩
  | .hbm, ⟨46, _⟩ => ⟨S32x256x2816, .f32⟩
  | .hbm, ⟨47, _⟩ => ⟨S32x256x2816, .f32⟩
  | .hbm, ⟨48, _⟩ => ⟨S_, .f32⟩
  | .hbm, ⟨49, _⟩ => ⟨S32x256x2816, .f32⟩
  | .hbm, ⟨50, _⟩ => ⟨S32x256x2816, .f32⟩
  | .hbm, ⟨51, _⟩ => ⟨S32x256x2816, .f32⟩
  | .hbm, ⟨52, _⟩ => ⟨S32x256x2816, .f32⟩
  | .hbm, ⟨53, _⟩ => ⟨S32x256x1024, .f32⟩
  | .hbm, ⟨54, _⟩ => ⟨S32x256x1024, .f32⟩
  | .hbm, ⟨55, _⟩ => ⟨S32x256x1024, .f32⟩
  | .hbm, ⟨56, _⟩ => ⟨S32x256x1024, .f32⟩
  | .hbm, ⟨57, _⟩ => ⟨S8192x1024, .f32⟩
  | .hbm, ⟨58, _⟩ => ⟨S4x2048x1024, .f32⟩
  | .hbm, ⟨59, _⟩ => ⟨S4x6x1024, .f32⟩
  | .hbm, ⟨60, _⟩ => ⟨S4x2048x1024, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S4x2048x1, .f32⟩
  | .hbm, ⟨71, _⟩ => ⟨S4x2048x1024, .f32⟩
  | .hbm, ⟨72, _⟩ => ⟨S4x2048x1024, .f32⟩
  | .hbm, ⟨73, _⟩ => ⟨S1x1x1024, .f32⟩
  | .hbm, ⟨74, _⟩ => ⟨S4x2048x1024, .f32⟩
  | .hbm, ⟨75, _⟩ => ⟨S4x2048x1024, .f32⟩
  | .hbm, ⟨76, _⟩ => ⟨S4x1x1024, .f32⟩
  | .hbm, ⟨77, _⟩ => ⟨S4x1024, .f32⟩
  | .hbm, ⟨78, _⟩ => ⟨S4x1x1024, .f32⟩
  | .hbm, ⟨79, _⟩ => ⟨S_, .f32⟩
  | .hbm, ⟨80, _⟩ => ⟨S4x1x1024, .f32⟩
  | .hbm, ⟨81, _⟩ => ⟨S4x1x1024, .f32⟩
  | .hbm, ⟨82, _⟩ => ⟨S4x2048x1024, .f32⟩
  | .hbm, ⟨83, _⟩ => ⟨S4x2048x1024, .f32⟩
  | .hbm, ⟨84, _⟩ => ⟨S4x1x1024, .f32⟩
  | .hbm, ⟨85, _⟩ => ⟨S4x1024, .f32⟩
  | .hbm, ⟨86, _⟩ => ⟨S4x1x1024, .f32⟩
  | .hbm, ⟨87, _⟩ => ⟨S4x2048x1024, .f32⟩
  | .hbm, ⟨88, _⟩ => ⟨S4x2048x1024, .f32⟩
  | .hbm, ⟨89, _⟩ => ⟨S4x1x1024, .f32⟩
  | .hbm, ⟨90, _⟩ => ⟨S4x1024, .f32⟩
  | .hbm, ⟨91, _⟩ => ⟨S4x1x1024, .f32⟩
  | .hbm, ⟨92, _⟩ => ⟨S4x2048x5632, .f32⟩
  | .hbm, ⟨93, _⟩ => ⟨S4x2048x2816, .f32⟩
  | .hbm, ⟨94, _⟩ => ⟨S4x2048x2816, .f32⟩
  | .hbm, ⟨95, _⟩ => ⟨S4x2048x2816, .f32⟩
  | .hbm, ⟨96, _⟩ => ⟨S4x2048x2816, .f32⟩
  | .hbm, ⟨97, _⟩ => ⟨S_, .f32⟩
  | .hbm, ⟨98, _⟩ => ⟨S4x2048x2816, .f32⟩
  | .hbm, ⟨99, _⟩ => ⟨S4x2048x2816, .f32⟩
  | .hbm, ⟨100, _⟩ => ⟨S_, .f32⟩
  | .hbm, ⟨101, _⟩ => ⟨S4x2048x2816, .f32⟩
  | .hbm, ⟨102, _⟩ => ⟨S4x2048x2816, .f32⟩
  | .hbm, ⟨103, _⟩ => ⟨S4x2048x2816, .f32⟩
  | .hbm, ⟨104, _⟩ => ⟨S4x2048x2816, .f32⟩
  | .hbm, ⟨105, _⟩ => ⟨S4x2048x1024, .f32⟩
  | .hbm, ⟨106, _⟩ => ⟨S4x2048x1024, .f32⟩
  | .hbm, ⟨107, _⟩ => ⟨S4x2048x1024, .f32⟩
  | .hbm, ⟨108, _⟩ => ⟨S4x2048x1024, .f32⟩
  | .hbm, ⟨109, _⟩ => ⟨S8192x1024, .f32⟩
  | .hbm, ⟨110, _⟩ => ⟨S8192x1024, .f32⟩
  | .hbm, ⟨111, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_6 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== Qkv.lean ====
abbrev S16384x1024 : Shape := ⟨2, ![16384, 1024]⟩
abbrev S1024 : Shape := ⟨1, ![1024]⟩
abbrev S8x6x1024 : Shape := ⟨3, ![8, 6, 1024]⟩
abbrev S1024x3072 : Shape := ⟨2, ![1024, 3072]⟩
abbrev S1x1024 : Shape := ⟨2, ![1, 1024]⟩
abbrev S16384x3072 : Shape := ⟨2, ![16384, 3072]⟩
abbrev S512x1024 : Shape := ⟨2, ![512, 1024]⟩
abbrev S1x6x1024 : Shape := ⟨3, ![1, 6, 1024]⟩
abbrev S512x3072 : Shape := ⟨2, ![512, 3072]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S8192x1024 : Shape := ⟨2, ![8192, 1024]⟩
abbrev S32x1x256x8x128 : Shape := ⟨5, ![32, 1, 256, 8, 128]⟩

abbrev nBuf : Space → Nat
  | .hbm => 11
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x6x1024, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S16384x3072, .f32⟩
  | .hbm, ⟨7, _⟩ => ⟨S8192x1024, .f32⟩
  | .hbm, ⟨8, _⟩ => ⟨S32x1x256x8x128, .f32⟩
  | .hbm, ⟨9, _⟩ => ⟨S8192x1024, .f32⟩
  | .hbm, ⟨10, _⟩ => ⟨S32x1x256x8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x3072, .bf16⟩
  | .local _ .vmem, ⟨6, _⟩ => ⟨S512x3072, .f32⟩
  | .local _ .vmem, ⟨7, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S16384x1024 : Shape := ⟨2, ![16384, 1024]⟩
abbrev S1024 : Shape := ⟨1, ![1024]⟩
abbrev S8x6x1024 : Shape := ⟨3, ![8, 6, 1024]⟩
abbrev S1024x3072 : Shape := ⟨2, ![1024, 3072]⟩
abbrev S8192x1024 : Shape := ⟨2, ![8192, 1024]⟩
abbrev S32x256x1024 : Shape := ⟨3, ![32, 256, 1024]⟩
abbrev S1x6x1024 : Shape := ⟨3, ![1, 6, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1x1024 : Shape := ⟨2, ![1, 1024]⟩
abbrev S32x256x3072 : Shape := ⟨3, ![32, 256, 3072]⟩
abbrev S4x2048x1024 : Shape := ⟨3, ![4, 2048, 1024]⟩
abbrev S4x6x1024 : Shape := ⟨3, ![4, 6, 1024]⟩
abbrev S4x2048 : Shape := ⟨2, ![4, 2048]⟩
abbrev S4x2048x1 : Shape := ⟨3, ![4, 2048, 1]⟩
abbrev S4x1x1024 : Shape := ⟨3, ![4, 1, 1024]⟩
abbrev S4x1024 : Shape := ⟨2, ![4, 1024]⟩
abbrev S4x2048x3072 : Shape := ⟨3, ![4, 2048, 3072]⟩
abbrev S32x256x8x2x64 : Shape := ⟨5, ![32, 256, 8, 2, 64]⟩
abbrev S32x256x8x128 : Shape := ⟨4, ![32, 256, 8, 128]⟩
abbrev S8192x3072 : Shape := ⟨2, ![8192, 3072]⟩
abbrev S16384x3072 : Shape := ⟨2, ![16384, 3072]⟩
abbrev S32x1x256x8x128 : Shape := ⟨5, ![32, 1, 256, 8, 128]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x6x1024, .f32⟩
  | .hbm, ⟨3, _⟩ => ⟨S1024x3072, .f32⟩
  | .hbm, ⟨4, _⟩ => ⟨S8192x1024, .f32⟩
  | .hbm, ⟨5, _⟩ => ⟨S32x256x1024, .f32⟩
  | .hbm, ⟨6, _⟩ => ⟨S1x6x1024, .f32⟩
  | .hbm, ⟨7, _⟩ => ⟨S32x256x1024, .f32⟩
  | .hbm, ⟨8, _⟩ => ⟨S_, .f32⟩
  | .hbm, ⟨9, _⟩ => ⟨S32x256, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S32x256x1, .f32⟩
  | .hbm, ⟨18, _⟩ => ⟨S32x256x1024, .f32⟩
  | .hbm, ⟨19, _⟩ => ⟨S32x256x1024, .f32⟩
  | .hbm, ⟨20, _⟩ => ⟨S1x1x1024, .f32⟩
  | .hbm, ⟨21, _⟩ => ⟨S32x256x1024, .f32⟩
  | .hbm, ⟨22, _⟩ => ⟨S32x256x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S1x1x1024, .f32⟩
  | .hbm, ⟨32, _⟩ => ⟨S1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x3072, .f32⟩
  | .hbm, ⟨37, _⟩ => ⟨S8192x1024, .f32⟩
  | .hbm, ⟨38, _⟩ => ⟨S4x2048x1024, .f32⟩
  | .hbm, ⟨39, _⟩ => ⟨S4x6x1024, .f32⟩
  | .hbm, ⟨40, _⟩ => ⟨S4x2048x1024, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S4x2048x1024, .f32⟩
  | .hbm, ⟨52, _⟩ => ⟨S4x2048x1024, .f32⟩
  | .hbm, ⟨53, _⟩ => ⟨S1x1x1024, .f32⟩
  | .hbm, ⟨54, _⟩ => ⟨S4x2048x1024, .f32⟩
  | .hbm, ⟨55, _⟩ => ⟨S4x2048x1024, .f32⟩
  | .hbm, ⟨56, _⟩ => ⟨S4x1x1024, .f32⟩
  | .hbm, ⟨57, _⟩ => ⟨S4x1024, .f32⟩
  | .hbm, ⟨58, _⟩ => ⟨S4x1x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x2048x1024, .f32⟩
  | .hbm, ⟨63, _⟩ => ⟨S4x2048x1024, .f32⟩
  | .hbm, ⟨64, _⟩ => ⟨S4x1x1024, .f32⟩
  | .hbm, ⟨65, _⟩ => ⟨S4x1024, .f32⟩
  | .hbm, ⟨66, _⟩ => ⟨S4x1x1024, .f32⟩
  | .hbm, ⟨67, _⟩ => ⟨S4x2048x1024, .f32⟩
  | .hbm, ⟨68, _⟩ => ⟨S4x2048x1024, .f32⟩
  | .hbm, ⟨69, _⟩ => ⟨S4x2048x3072, .f32⟩
  | .hbm, ⟨70, _⟩ => ⟨S32x256x1024, .f32⟩
  | .hbm, ⟨71, _⟩ => ⟨S32x256x1024, .f32⟩
  | .hbm, ⟨72, _⟩ => ⟨S32x256x1024, .f32⟩
  | .hbm, ⟨73, _⟩ => ⟨S32x256x8x2x64, .f32⟩
  | .hbm, ⟨74, _⟩ => ⟨S32x256x8x2x64, .f32⟩
  | .hbm, ⟨75, _⟩ => ⟨S32x256x8x128, .f32⟩
  | .hbm, ⟨76, _⟩ => ⟨S8192x3072, .f32⟩
  | .hbm, ⟨77, _⟩ => ⟨S8192x3072, .f32⟩
  | .hbm, ⟨78, _⟩ => ⟨S16384x3072, .f32⟩
  | .hbm, ⟨79, _⟩ => ⟨S32x1x256x8x128, .f32⟩
  | .hbm, ⟨80, _⟩ => ⟨S32x1x256x8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩
abbrev S32x256x1024 : Shape := ⟨3, ![32, 256, 1024]⟩
abbrev S4x2048x1024 : Shape := ⟨3, ![4, 2048, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S8192x1024, .f32⟩
  | .hbm, ⟨4, _⟩ => ⟨S32x256x1024, .f32⟩
  | .hbm, ⟨5, _⟩ => ⟨S1x1024, .f32⟩
  | .hbm, ⟨6, _⟩ => ⟨S8192x1024, .f32⟩
  | .hbm, ⟨7, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== NormRefIdeal.lean ====
abbrev S16384x1024 : Shape := ⟨2, ![16384, 1024]⟩
abbrev S1024 : Shape := ⟨1, ![1024]⟩
abbrev S8192x1024 : Shape := ⟨2, ![8192, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S4x2048x1024 : Shape := ⟨3, ![4, 2048, 1024]⟩
abbrev S4x2048 : Shape := ⟨2, ![4, 2048]⟩
abbrev S4x2048x1 : Shape := ⟨3, ![4, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8192x1024, .f32⟩
  | .hbm, ⟨3, _⟩ => ⟨S32x256x1024, .f32⟩
  | .hbm, ⟨4, _⟩ => ⟨S32x256x1024, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x1024, .f32⟩
  | .hbm, ⟨16, _⟩ => ⟨S32x256x1024, .f32⟩
  | .hbm, ⟨17, _⟩ => ⟨S1x1x1024, .f32⟩
  | .hbm, ⟨18, _⟩ => ⟨S32x256x1024, .f32⟩
  | .hbm, ⟨19, _⟩ => ⟨S32x256x1024, .f32⟩
  | .hbm, ⟨20, _⟩ => ⟨S8192x1024, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Gmlp.lean ====
abbrev S16384x1024 : Shape := ⟨2, ![16384, 1024]⟩
abbrev S1024 : Shape := ⟨1, ![1024]⟩
abbrev S8x6x1024 : Shape := ⟨3, ![8, 6, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S16384x2048 : Shape := ⟨2, ![16384, 2048]⟩
abbrev S512x1024 : Shape := ⟨2, ![512, 1024]⟩
abbrev S1x6x1024 : Shape := ⟨3, ![1, 6, 1024]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S128x8 : Shape := ⟨2, ![128, 8]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 17
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x6x1024, .f32⟩
  | .hbm, ⟨3, _⟩ => ⟨S1024x2048, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S1024x2048, .bf16⟩
  | .hbm, ⟨9, _⟩ => ⟨S1x1024, .f32⟩
  | .hbm, ⟨10, _⟩ => ⟨S16384x2048, .f32⟩
  | .hbm, ⟨11, _⟩ => ⟨S8x128x128, .bf16⟩
  | .hbm, ⟨12, _⟩ => ⟨S128x8, .f32⟩
  | .hbm, ⟨13, _⟩ => ⟨S1x1024, .f32⟩
  | .hbm, ⟨14, _⟩ => ⟨S16384x1024, .bf16⟩
  | .hbm, ⟨15, _⟩ => ⟨S1024x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S256x2048, .f32⟩
  | .local _ .vmem, ⟨9, _⟩ => ⟨S256x2048, .f32⟩
  | .local _ .vmem, ⟨10, _⟩ => ⟨S1x1024, .f32⟩
  | .local _ .vmem, ⟨11, _⟩ => ⟨S8x128x128, .bf16⟩
  | .local _ .vmem, ⟨12, _⟩ => ⟨S128x8, .f32⟩
  | .local _ .vmem, ⟨13, _⟩ => ⟨S256x1024, .bf16⟩
  | .local _ .vmem, ⟨14, _⟩ => ⟨S256x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S1x6x1024, .f32⟩
  | .local _ .vmem, ⟨21, _⟩ => ⟨S1x6x1024, .f32⟩
  | .local _ .vmem, ⟨22, _⟩ => ⟨S512x1024, .f32⟩
  | .local _ .vmem, ⟨23, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x6x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== GmlpRefIdeal.lean ====
abbrev S16384x1024 : Shape := ⟨2, ![16384, 1024]⟩
abbrev S1024 : Shape := ⟨1, ![1024]⟩
abbrev S8x6x1024 : Shape := ⟨3, ![8, 6, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S8192x1024 : Shape := ⟨2, ![8192, 1024]⟩
abbrev S32x256x1024 : Shape := ⟨3, ![32, 256, 1024]⟩
abbrev S1x6x1024 : Shape := ⟨3, ![1, 6, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1x1024 : Shape := ⟨2, ![1, 1024]⟩
abbrev S32x256x2048 : Shape := ⟨3, ![32, 256, 2048]⟩
abbrev S32x2x128x8x128 : Shape := ⟨5, ![32, 2, 128, 8, 128]⟩
abbrev S8x128x32x2x128 : Shape := ⟨5, ![8, 128, 32, 2, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4x2048x1024 : Shape := ⟨3, ![4, 2048, 1024]⟩
abbrev S4x6x1024 : Shape := ⟨3, ![4, 6, 1024]⟩
abbrev S4x2048 : Shape := ⟨2, ![4, 2048]⟩
abbrev S4x2048x1 : Shape := ⟨3, ![4, 2048, 1]⟩
abbrev S4x1x1024 : Shape := ⟨3, ![4, 1, 1024]⟩
abbrev S4x1024 : Shape := ⟨2, ![4, 1024]⟩
abbrev S4x2048x2048 : Shape := ⟨3, ![4, 2048, 2048]⟩
abbrev S4x16x128x8x128 : Shape := ⟨5, ![4, 16, 128, 8, 128]⟩
abbrev S8x128x4x16x128 : Shape := ⟨5, ![8, 128, 4, 16, 128]⟩

abbrev nBuf : Space → Nat
  | .hbm => 197
  | .vmem => 0
  | .smem => 0
  | _ => 0

abbrev hbmTy0_0 (i : Nat) : BufTy := match i % 128 with
  | 0 => ⟨S16384x1024, .f32⟩
  | 1 => ⟨S1024, .f32⟩
  | 2 => ⟨S8x6x1024, .f32⟩
  | 3 => ⟨S1024x2048, .f32⟩
  | 4 => ⟨S1024, .f32⟩
  | 5 => ⟨S8x128x128, .f32⟩
  | 6 => ⟨S8x128, .f32⟩
  | 7 => ⟨S1024x1024, .f32⟩
  | 8 => ⟨S8192x1024, .f32⟩
  | 9 => ⟨S32x256x1024, .f32⟩
  | 10 => ⟨S1x6x1024, .f32⟩
  | 11 => ⟨S32x256x1024, .f32⟩
  | 12 => ⟨S_, .f32⟩
  | 13 => ⟨S32x256, .f32⟩
  | 14 => ⟨S32x256x1, .f32⟩
  | 15 => ⟨S_, .f32⟩
  | 16 => ⟨S32x256x1, .f32⟩
  | 17 => ⟨S32x256x1, .f32⟩
  | 18 => ⟨S_, .f32⟩
  | 19 => ⟨S32x256x1, .f32⟩
  | 20 => ⟨S32x256x1, .f32⟩
  | 21 => ⟨S32x256x1, .f32⟩
  | 22 => ⟨S32x256x1024, .f32⟩
  | 23 => ⟨S32x256x1024, .f32⟩
  | 24 => ⟨S1x1x1024, .f32⟩
  | 25 => ⟨S32x256x1024, .f32⟩
  | 26 => ⟨S32x256x1024, .f32⟩
  | 27 => ⟨S1x1x1024, .f32⟩
  | 28 => ⟨S1x1024, .f32⟩
  | 29 => ⟨S1x1x1024, .f32⟩
  | 30 => ⟨S_, .f32⟩
  | 31 => ⟨S1x1x1024, .f32⟩
  | 32 => ⟨S1x1x1024, .f32⟩
  | 33 => ⟨S32x256x1024, .f32⟩
  | 34 => ⟨S32x256x1024, .f32⟩
  | 35 => ⟨S1x1x1024, .f32⟩
  | 36 => ⟨S1x1024, .f32⟩
  | 37 => ⟨S1x1x1024, .f32⟩
  | 38 => ⟨S32x256x1024, .f32⟩
  | 39 => ⟨S32x256x1024, .f32⟩
  | 40 => ⟨S1x1x1024, .f32⟩
  | 41 => ⟨S1x1024, .f32⟩
  | 42 => ⟨S1x1x1024, .f32⟩
  | 43 => ⟨S32x256x2048, .f32⟩
  | 44 => ⟨S32x256x2048, .f32⟩
  | 45 => ⟨S32x256x2048, .f32⟩
  | 46 => ⟨S_, .f32⟩
  | 47 => ⟨S32x256x2048, .f32⟩
  | 48 => ⟨S32x256x2048, .f32⟩
  | 49 => ⟨S32x256x2048, .f32⟩
  | 50 => ⟨S_, .f32⟩
  | 51 => ⟨S32x256x2048, .f32⟩
  | 52 => ⟨S32x256x2048, .f32⟩
  | 53 => ⟨S32x256x2048, .f32⟩
  | 54 => ⟨S_, .f32⟩
  | 55 => ⟨S32x256x2048, .f32⟩
  | 56 => ⟨S32x256x2048, .f32⟩
  | 57 => ⟨S_, .f32⟩
  | 58 => ⟨S32x256x2048, .f32⟩
  | 59 => ⟨S32x256x2048, .f32⟩
  | 60 => ⟨S32x256x2048, .f32⟩
  | 61 => ⟨S32x256x1024, .f32⟩
  | 62 => ⟨S32x256x1024, .f32⟩
  | 63 => ⟨S_, .f32⟩
  | 64 => ⟨S32x256, .f32⟩
  | 65 => ⟨S32x256x1, .f32⟩
  | 66 => ⟨S_, .f32⟩
  | 67 => ⟨S32x256x1, .f32⟩
  | 68 => ⟨S32x256x1, .f32⟩
  | 69 => ⟨S32x256x1024, .f32⟩
  | 70 => ⟨S32x256x1024, .f32⟩
  | 71 => ⟨S32x256x1024, .f32⟩
  | 72 => ⟨S_, .f32⟩
  | 73 => ⟨S32x256, .f32⟩
  | 74 => ⟨S32x256x1, .f32⟩
  | 75 => ⟨S_, .f32⟩
  | 76 => ⟨S32x256x1, .f32⟩
  | 77 => ⟨S32x256x1, .f32⟩
  | 78 => ⟨S_, .f32⟩
  | 79 => ⟨S32x256x1, .f32⟩
  | 80 => ⟨S32x256x1, .f32⟩
  | 81 => ⟨S32x256x1, .f32⟩
  | 82 => ⟨S32x256x1024, .f32⟩
  | 83 => ⟨S32x256x1024, .f32⟩
  | 84 => ⟨S1x1x1024, .f32⟩
  | 85 => ⟨S32x256x1024, .f32⟩
  | 86 => ⟨S32x256x1024, .f32⟩
  | 87 => ⟨S32x2x128x8x128, .f32⟩
  | 88 => ⟨S8x128x32x2x128, .f32⟩
  | 89 => ⟨S32x2x128x8x128, .f32⟩
  | 90 => ⟨S128x8, .f32⟩
  | 91 => ⟨S128x8x1, .f32⟩
  | 92 => ⟨S1x1x128x8x1, .f32⟩
  | 93 => ⟨S32x2x128x8x128, .f32⟩
  | 94 => ⟨S32x2x128x8x128, .f32⟩
  | 95 => ⟨S32x256x1024, .f32⟩
  | 96 => ⟨S32x256x1024, .f32⟩
  | 97 => ⟨S32x256x1024, .f32⟩
  | 98 => ⟨S32x256x1024, .f32⟩
  | 99 => ⟨S32x256x1024, .f32⟩
  | 100 => ⟨S32x256x1024, .f32⟩
  | 101 => ⟨S8192x1024, .f32⟩
  | 102 => ⟨S4x2048x1024, .f32⟩
  | 103 => ⟨S4x6x1024, .f32⟩
  | 104 => ⟨S4x2048x1024, .f32⟩
  | 105 => ⟨S_, .f32⟩
  | 106 => ⟨S4x2048, .f32⟩
  | 107 => ⟨S4x2048x1, .f32⟩
  | 108 => ⟨S_, .f32⟩
  | 109 => ⟨S4x2048x1, .f32⟩
  | 110 => ⟨S4x2048x1, .f32⟩
  | 111 => ⟨S_, .f32⟩
  | 112 => ⟨S4x2048x1, .f32⟩
  | 113 => ⟨S4x2048x1, .f32⟩
  | 114 => ⟨S4x2048x1, .f32⟩
  | 115 => ⟨S4x2048x1024, .f32⟩
  | 116 => ⟨S4x2048x1024, .f32⟩
  | 117 => ⟨S1x1x1024, .f32⟩
  | 118 => ⟨S4x2048x1024, .f32⟩
  | 119 => ⟨S4x2048x1024, .f32⟩
  | 120 => ⟨S4x1x1024, .f32⟩
  | 121 => ⟨S4x1024, .f32⟩
  | 122 => ⟨S4x1x1024, .f32⟩
  | 123 => ⟨S_, .f32⟩
  | 124 => ⟨S4x1x1024, .f32⟩
  | 125 => ⟨S4x1x1024, .f32⟩
  | 126 => ⟨S4x2048x1024, .f32⟩
  | 127 => ⟨S4x2048x1024, .f32⟩
  | _ => ⟨S16384x1024, .f32⟩

abbrev hbmTy0_1 (i : Nat) : BufTy := match i % 128 with
  | 0 => ⟨S4x1x1024, .f32⟩
  | 1 => ⟨S4x1024, .f32⟩
  | 2 => ⟨S4x1x1024, .f32⟩
  | 3 => ⟨S4x2048x1024, .f32⟩
  | 4 => ⟨S4x2048x1024, .f32⟩
  | 5 => ⟨S4x1x1024, .f32⟩
  | 6 => ⟨S4x1024, .f32⟩
  | 7 => ⟨S4x1x1024, .f32⟩
  | 8 => ⟨S4x2048x2048, .f32⟩
  | 9 => ⟨S4x2048x2048, .f32⟩
  | 10 => ⟨S4x2048x2048, .f32⟩
  | 11 => ⟨S_, .f32⟩
  | 12 => ⟨S4x2048x2048, .f32⟩
  | 13 => ⟨S4x2048x2048, .f32⟩
  | 14 => ⟨S4x2048x2048, .f32⟩
  | 15 => ⟨S_, .f32⟩
  | 16 => ⟨S4x2048x2048, .f32⟩
  | 17 => ⟨S4x2048x2048, .f32⟩
  | 18 => ⟨S4x2048x2048, .f32⟩
  | 19 => ⟨S_, .f32⟩
  | 20 => ⟨S4x2048x2048, .f32⟩
  | 21 => ⟨S4x2048x2048, .f32⟩
  | 22 => ⟨S_, .f32⟩
  | 23 => ⟨S4x2048x2048, .f32⟩
  | 24 => ⟨S4x2048x2048, .f32⟩
  | 25 => ⟨S4x2048x2048, .f32⟩
  | 26 => ⟨S4x2048x1024, .f32⟩
  | 27 => ⟨S4x2048x1024, .f32⟩
  | 28 => ⟨S_, .f32⟩
  | 29 => ⟨S4x2048, .f32⟩
  | 30 => ⟨S4x2048x1, .f32⟩
  | 31 => ⟨S_, .f32⟩
  | 32 => ⟨S4x2048x1, .f32⟩
  | 33 => ⟨S4x2048x1, .f32⟩
  | 34 => ⟨S4x2048x1024, .f32⟩
  | 35 => ⟨S4x2048x1024, .f32⟩
  | 36 => ⟨S4x2048x1024, .f32⟩
  | 37 => ⟨S_, .f32⟩
  | 38 => ⟨S4x2048, .f32⟩
  | 39 => ⟨S4x2048x1, .f32⟩
  | 40 => ⟨S_, .f32⟩
  | 41 => ⟨S4x2048x1, .f32⟩
  | 42 => ⟨S4x2048x1, .f32⟩
  | 43 => ⟨S_, .f32⟩
  | 44 => ⟨S4x2048x1, .f32⟩
  | 45 => ⟨S4x2048x1, .f32⟩
  | 46 => ⟨S4x2048x1, .f32⟩
  | 47 => ⟨S4x2048x1024, .f32⟩
  | 48 => ⟨S4x2048x1024, .f32⟩
  | 49 => ⟨S1x1x1024, .f32⟩
  | 50 => ⟨S4x2048x1024, .f32⟩
  | 51 => ⟨S4x2048x1024, .f32⟩
  | 52 => ⟨S4x16x128x8x128, .f32⟩
  | 53 => ⟨S8x128x4x16x128, .f32⟩
  | 54 => ⟨S4x16x128x8x128, .f32⟩
  | 55 => ⟨S128x8, .f32⟩
  | 56 => ⟨S128x8x1, .f32⟩
  | 57 => ⟨S1x1x128x8x1, .f32⟩
  | 58 => ⟨S4x16x128x8x128, .f32⟩
  | 59 => ⟨S4x16x128x8x128, .f32⟩
  | 60 => ⟨S4x2048x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S4x2048x1024, .f32⟩
  | 66 => ⟨S8192x1024, .f32⟩
  | 67 => ⟨S8192x1024, .f32⟩
  | 68 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_12 : Ref sig .tc := ⟨.hbm, 105, rfl⟩
abbrev main_v84 : Ref sig .tc := ⟨.hbm, 106, rfl⟩
abbrev main_v85 : Ref sig .tc := ⟨.hbm, 107, rfl⟩
abbrev main_cst_13 : Ref sig .tc := ⟨.hbm, 108, rfl⟩
abbrev main_v86 : Ref sig .tc := ⟨.hbm, 109, rfl⟩
abbrev main_v87 : Ref sig .tc := ⟨.hbm, 110, rfl⟩
abbrev main_cst_14 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_15 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_16 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_17 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_18 : Ref sig .tc := ⟨.hbm, 147, rfl⟩
abbrev main_v120 : Ref sig .tc := ⟨.hbm, 148, rfl⟩
abbrev main_v121 : Ref sig .tc := ⟨.hbm, 149, rfl⟩
abbrev main_cst_19 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_20 : Ref sig .tc := ⟨.hbm, 156, rfl⟩
abbrev main_v127 : Ref sig .tc := ⟨.hbm, 157, rfl⟩
abbrev main_v128 : Ref sig .tc := ⟨.hbm, 158, rfl⟩
abbrev main_cst_21 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_22 : Ref sig .tc := ⟨.hbm, 165, rfl⟩
abbrev main_v134 : Ref sig .tc := ⟨.hbm, 166, rfl⟩
abbrev main_v135 : Ref sig .tc := ⟨.hbm, 167, rfl⟩
abbrev main_cst_23 : Ref sig .tc := ⟨.hbm, 168, rfl⟩
abbrev main_v136 : Ref sig .tc := ⟨.hbm, 169, rfl⟩
abbrev main_v137 : Ref sig .tc := ⟨.hbm, 170, rfl⟩
abbrev main_cst_24 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩

abbrev nD : Nat := 1
abbrev τ : Topo := Topo.v7x

variable {F : FTy → Type} [FloatOps F]
-- ==== Proof.KernelIdeal.Spec.lean ====
/- Differential attention as scalar formulas over the extended reals: what one lane of one head's result is,
   written once, so that the kernel and the reference are each compared with it. -/
module

public import Idealize.ShloMosaic.Lib.Pointwise

@[expose] public section

noncomputable section

namespace Cert.AttnSpec

open Idealize.ShloMosaic

/-- The weight of the second map: a difference of two exponentials of dot products, plus a constant. -/
def lam (p : Fin 4 → Fin 64 → EReal) : EReal :=
  Ideal.exp (∑ l, p 0 l * p 1 l) - Ideal.exp (∑ l, p 2 l * p 3 l) + Ideal.ofBits .f32 0x3EF1014C#32

/-- The largest of a row of scores. -/
def top (s : Fin 256 → EReal) : EReal := Finset.univ.fold max (Ideal.ofBits .f32 0xFF800000#32) s

/-- The exponential of a score less the row's largest. -/
def ex (s : Fin 256 → EReal) (j : Fin 256) : EReal := Ideal.exp (s j - top s)

/-- The softmax of a row of scores. -/
def soft (s : Fin 256 → EReal) (j : Fin 256) : EReal := Ideal.div (ex s j) (∑ i, ex s i)

/-- The softmax as a product with the reciprocal of the sum. -/
def softK (s : Fin 256 → EReal) (j : Fin 256) : EReal := ex s j * Ideal.div 1 (∑ i, ex s i)

/-- The weighted values, for weights `w` of the keys. -/
def mix (w : Fin 256 → EReal) (v : Fin 256 → Fin 128 → EReal) (d : Fin 128) : EReal := ∑ j, w j * v j d

/-- The weighted values divided by their root mean square, times the norm's weights and a constant. -/
def out (w : Fin 256 → EReal) (v : Fin 256 → Fin 128 → EReal) (g : Fin 128 → EReal) (d : Fin 128) : EReal :=
  mix w v d * Ideal.rsqrt (Ideal.div (∑ e, mix w v e * mix w v e) (Ideal.ofBits .f32 0x43000000#32) + Ideal.ofBits .f32 0x358637BD#32)
    * g d * Ideal.ofBits .f32 0x3F077F5A#32

/-- The score of a query and a key in the map that starts at lane `o`: their dot product over 64 lanes, scaled. -/
def score (o : ℕ) (ho : o + 64 ≤ 128) (q k : Fin 128 → EReal) : EReal :=
  (∑ l : Fin 64, q ⟨o + l, by omega⟩ * k ⟨o + l, by omega⟩) * Ideal.ofBits .f32 0x3E000000#32

/-- The score with the query scaled first. -/
def scoreK (o : ℕ) (ho : o + 64 ≤ 128) (q k : Fin 128 → EReal) : EReal :=
  ∑ l : Fin 64, q ⟨o + l, by omega⟩ * Ideal.ofBits .f32 0x3E000000#32 * k ⟨o + l, by omega⟩

/-- The weight of key `j` for a query: the first map's softmax less `lm` times the second's. -/
def weight (lm : EReal) (q : Fin 128 → EReal) (k : Fin 256 → Fin 128 → EReal) (j : Fin 256) : EReal :=
  soft (fun i => score 0 (by decide) q (k i)) j - lm * soft (fun i => score 64 (by decide) q (k i)) j

/-- The weight with scaled queries and products with the reciprocals of the sums. -/
def weightK (lm : EReal) (q : Fin 128 → EReal) (k : Fin 256 → Fin 128 → EReal) (j : Fin 256) : EReal :=
  softK (fun i => scoreK 0 (by decide) q (k i)) j - lm * softK (fun i => scoreK 64 (by decide) q (k i)) j

/-- A scaling constant is a real number. -/
theorem scale_real : ∃ x : ℝ, Ideal.ofBits .f32 0x3E000000#32 = x :=
  ⟨_, by simp [Ideal.ofBits, Ideal.ieee]; rfl⟩

/-- The largest of a row of scores is one of them. -/
theorem top_eq (s : Fin 256 → EReal) : ∃ j, top s = s j := by
  obtain ⟨j, hj⟩ := Finite.exists_max s
  have hb : Ideal.ofBits .f32 0xFF800000#32 = ⊥ := by simp [Ideal.ofBits, Ideal.ieee]
  refine ⟨j, le_antisymm ?_ ?_⟩
  · exact (Finset.fold_max_le _).2 ⟨by simp [hb], fun x _ => hj x⟩
  · exact (Finset.le_fold_max _).2 (Or.inr ⟨j, Finset.mem_univ _, le_rfl⟩)

/-- The largest of a row of scores is not below the fold's first value. -/
theorem top_max (s : Fin 256 → EReal) : max (Ideal.ofBits .f32 0xFF800000#32) (top s) = top s :=
  max_eq_right ((Finset.le_fold_max _).2 (Or.inl le_rfl))

/-- An exponential is not negative. -/
theorem exp_nonneg (x : EReal) : 0 ≤ Ideal.exp x := by
  induction x with
  | bot => exact le_rfl
  | top => exact le_top
  | coe r => exact EReal.coe_nonneg.2 (Real.exp_pos r).le

/-- The sum of the exponentials of a row of finite scores is not zero: the largest score's is one. -/
theorem sum_ne_zero (s : Fin 256 → EReal) (hs : ∀ j, ∃ x : ℝ, s j = x) : ∑ i, ex s i ≠ 0 := by
  obtain ⟨j, hj⟩ := top_eq s
  obtain ⟨x, hx⟩ := hs j
  have h1 : ex s j = 1 := by
    unfold ex
    rw [hj, hx, ← EReal.coe_sub, sub_self]
    exact (Ideal.exp_coe _).trans (by rw [Real.exp_zero]; rfl)
  have h2 : ex s j ≤ ∑ i, ex s i := Finset.single_le_sum (f := fun i => ex s i) (fun i _ => exp_nonneg _) (Finset.mem_univ j)
  rw [h1] at h2
  exact (lt_of_lt_of_le zero_lt_one h2).ne'

/-- On finite scores the product with the reciprocal is the quotient. -/
theorem softK_eq (s : Fin 256 → EReal) (hs : ∀ j, ∃ x : ℝ, s j = x) (j : Fin 256) : softK s j = soft s j :=
  Ideal.mul_one_div (sum_ne_zero s hs)

/-- A scaled dot product of finite rows over all lanes of one half, the scale inside the sum or outside. -/
theorem scale_out (q k : Fin 64 → EReal) (hq : ∀ l, ∃ x : ℝ, q l = x) (hk : ∀ l, ∃ x : ℝ, k l = x) (c : EReal) (hc : ∃ x : ℝ, c = x) :
    (∑ l, q l * c * k l) = (∑ l, q l * k l) * c ∧ ∃ x : ℝ, (∑ l, q l * k l) * c = x := by
  choose qr hq using hq
  choose kr hk using hk
  obtain ⟨cr, rfl⟩ := hc
  have h : ∀ f : Fin 64 → ℝ, (∑ l, ((f l : ℝ) : EReal)) = ((∑ l, f l : ℝ) : EReal) := fun f =>
    (map_sum (⟨⟨fun x : ℝ => (x : EReal), EReal.coe_zero⟩, EReal.coe_add⟩ : ℝ →+ EReal) f Finset.univ).symm
  simp only [hq, hk, ← EReal.coe_mul, h]
  refine ⟨?_, _, rfl⟩
  rw [Finset.sum_mul]
  exact congrArg _ (Finset.sum_congr rfl fun l _ => by ring)

/-- The score of finite rows is a real number. -/
theorem score_real (o : ℕ) (ho : o + 64 ≤ 128) (q k : Fin 128 → EReal) (hq : ∀ l, ∃ x : ℝ, q l = x) (hk : ∀ l, ∃ x : ℝ, k l = x) :
    ∃ x : ℝ, score o ho q k = x :=
  (scale_out _ _ (fun _ => hq _) (fun _ => hk _) _ scale_real).2

/-- On finite queries and keys the two forms of the weight are equal. -/
theorem weightK_eq (lm : EReal) (q : Fin 128 → EReal) (k : Fin 256 → Fin 128 → EReal) (hq : ∀ l, ∃ x : ℝ, q l = x)
    (hk : ∀ i l, ∃ x : ℝ, k i l = x) : weightK lm q k = weight lm q k := by
  have e : ∀ o ho, (fun i => scoreK o ho q (k i)) = fun i => score o ho q (k i) := fun o ho => funext fun i =>
    (scale_out _ _ (fun _ => hq _) (fun _ => hk i _) _ scale_real).1
  funext j
  unfold weightK weight
  rw [e, e, softK_eq _ fun i => score_real _ _ _ _ hq (hk i), softK_eq _ fun i => score_real _ _ _ _ hq (hk i)]

end Cert.AttnSpec

end
-- ==== Proof.KernelIdeal.Value.lean ====
/- The attention kernel read at an index and compared with the formulas of `Spec`. -/
module

public import proofs.«01_k».proof.Proof.Gen.KernelIdeal.Frame
public import proofs.«01_k».proof.Proof.KernelIdeal.Spec
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.KernelIdeal.Value
section
open Cert.KernelIdeal Cert.KernelIdeal.Gen

/-- The kernel's second-map weight. -/
theorem pay20 (p : FVec Ideal S4x64 .f32) : k0_pay20 (F := Ideal) p (ix2 0 0) = AttnSpec.lam (fun a l => p (ix2 a l)) := by
  pointwise [k0_pay20, AttnSpec.lam]

/-- The lanes of the first map. -/
theorem lanes : ∀ l : Fin 128, IntOp.cmpi .slt (BitVec.ofNat 32 l.val) 64#32 = if l.val < 64 then 1#1 else 0#1 := by decide +kernel

/-- The kernel's scores of the first map. -/
theorem pay21 (q : FVec Ideal S256x128 .f32) (k : FVec Ideal S1x256x128 .bf16) (r : Fin 256) (j : Fin 256) :
    k0_pay21 (F := Ideal) q k (ix2 ⟨r, by omega⟩ j) = AttnSpec.scoreK 0 (by decide) (fun l => q (ix2 r l)) (fun l => k (ix3 0 j l)) := by
  unfold AttnSpec.scoreK
  pointwise [k0_pay21, k0_pay14]
  simp only [lanes]
  refine (Fin.sum_univ_add (a := 64) (b := 64) _).trans ?_
  have z : (∑ _l : Fin 64, (0 : EReal)) = 0 := Finset.sum_const_zero
  simp [Scalar.select, z]
  rfl

/-- The kernel's scores of the second map. -/
theorem pay21' (q : FVec Ideal S256x128 .f32) (k : FVec Ideal S1x256x128 .bf16) (r : Fin 256) (j : Fin 256) :
    k0_pay21 (F := Ideal) q k (ix2 ⟨256 + r, by omega⟩ j) = AttnSpec.scoreK 64 (by decide) (fun l => q (ix2 r l)) (fun l => k (ix3 0 j l)) := by
  unfold AttnSpec.scoreK
  pointwise [k0_pay21, k0_pay14]
  simp only [lanes]
  refine (Fin.sum_univ_add (a := 64) (b := 64) _).trans ?_
  have z : (∑ _l : Fin 64, (0 : EReal)) = 0 := Finset.sum_const_zero
  simp [Scalar.select, z]
  refine Finset.sum_congr rfl fun l _ => ?_
  rw [show l.addNat 64 = (⟨64 + l, by omega⟩ : Fin 128) from Fin.ext (Nat.add_comm _ _)]

/-- What the kernel stores of a head, from the head's scores and values. -/
theorem pay22 (lam : FVec Ideal S1x1 .f32) (s : FVec Ideal S512x256 .f32) (v : FVec Ideal S1x256x128 .bf16) (g : FVec Ideal S1x128 .f32) (r : Fin 256) (d : Fin 128) :
    k0_pay22 (F := Ideal) lam s v g (ix2 r d) = AttnSpec.out (fun j => AttnSpec.softK (fun i => s (ix2 ⟨r, by omega⟩ i)) j - lam (ix2 0 0) * AttnSpec.softK (fun i => s (ix2 ⟨256 + r, by omega⟩ i)) j)
      (fun j e => v (ix3 0 j e)) (fun e => g (ix2 0 e)) d := by
  pointwise [k0_pay22, AttnSpec.out, AttnSpec.mix, AttnSpec.softK, AttnSpec.ex, AttnSpec.top]

/-- One head: the stored lanes from the head's query, key and value lanes. -/
theorem head (p : FVec Ideal S4x64 .f32) (q k v : FVec Ideal S256x128 .f32) (g : FVec Ideal S1x128 .f32) (r : Fin 256) (d : Fin 128) :
    k0_pay22 (F := Ideal) (k0_pay20 (F := Ideal) p) (k0_pay21 (F := Ideal) q (k0_pay2 (F := Ideal) k)) (k0_pay2 (F := Ideal) v) g (ix2 r d) =
      AttnSpec.out (AttnSpec.weightK (AttnSpec.lam fun a l => p (ix2 a l)) (fun l => q (ix2 r l)) (fun i l => k (ix2 i l)))
        (fun j e => v (ix2 j e)) (fun e => g (ix2 0 e)) d := by
  have e2 : ∀ (k : FVec Ideal S256x128 .f32) (i : Fin 256) (l : Fin 128), k0_pay2 (F := Ideal) k (ix3 0 i l) = k (ix2 i l) := fun k i l => by
    pointwise [k0_pay2]
  rw [pay22]
  simp only [pay20, pay21, pay21', e2]
  rfl

variable (m : (ℓ : Loc nD τ sig) → Buf (Elt Ideal) ℓ)

/-- Lane `d` of the head that lane `e` belongs to. -/
def lane (e : Fin 1024) (d : Fin 128) : Fin 1024 := ⟨e.val / 128 * 128 + d, by omega⟩

/-- The lanes of the head that lane `e` belongs to. -/
def cols (w : FVec Ideal S256x1024 .f32) (e : Fin 1024) : FVec Ideal S256x128 .f32 := fun j => w (ix2 (j 0) (lane e (j 1)))

/-- A load of 128 lanes from lane `o` on, as a function. -/
theorem cut (w : FVec Ideal S256x1024 .f32) (o : ℕ) (inb : ∀ a : Fin 2, (![0, o] : Fin 2 → ℕ) a + (![256, 128] : Fin 2 → ℕ) a ≤ S256x1024.size a) (e : Fin 1024) (h : e.val / 128 * 128 = o) :
    (View.ld (Val := Elt Ideal) (e' := .f32) w (Rect.unit (s := S256x1024) ![0, o] ![256, 128] inb) : FVec Ideal S256x128 .f32) = cols w e := by
  subst h
  funext j
  refine congrArg w (funext fun a => Fin.ext ?_)
  match a with
  | ⟨0, _⟩ =>
    show 0 + 1 * (j 0).val = (j 0).val
    omega
  | ⟨1, _⟩ =>
    show e.val / 128 * 128 + 1 * (j 1).val = e.val / 128 * 128 + (j 1).val
    omega

/-- One head, from loads of its lanes: the stored lane `o + d` is lane `e` of the block. -/
theorem tile (p : FVec Ideal S4x64 .f32) (q k v : FVec Ideal S256x1024 .f32) (g : FVec Ideal S1x128 .f32) (r : Fin 256) (e : Fin 1024) (d : Fin 128) (o : ℕ)
    (inb : ∀ a : Fin 2, (![0, o] : Fin 2 → ℕ) a + (![256, 128] : Fin 2 → ℕ) a ≤ S256x1024.size a) (h : e.val = o + d.val) (ho : o % 128 = 0) :
    k0_pay22 (F := Ideal) (k0_pay20 (F := Ideal) p) (k0_pay21 (F := Ideal) (View.ld (Val := Elt Ideal) (e' := .f32) q (Rect.unit (s := S256x1024) ![0, o] ![256, 128] inb))
      (k0_pay2 (F := Ideal) (View.ld (Val := Elt Ideal) (e' := .f32) k (Rect.unit (s := S256x1024) ![0, o] ![256, 128] inb))))
      (k0_pay2 (F := Ideal) (View.ld (Val := Elt Ideal) (e' := .f32) v (Rect.unit (s := S256x1024) ![0, o] ![256, 128] inb))) g (ix2 r d) =
    AttnSpec.out (AttnSpec.weightK (AttnSpec.lam fun a l => p (ix2 a l)) (fun l => q (ix2 r (lane e l))) (fun i l => k (ix2 i (lane e l))))
      (fun j d => v (ix2 j (lane e d))) (fun d => g (ix2 0 d)) ⟨e.val % 128, by omega⟩ := by
  have hd : (⟨e.val % 128, by omega⟩ : Fin 128) = d := Fin.ext (by show (e : ℕ) % 128 = d; omega)
  rw [hd, cut q o inb e (by omega), cut k o inb e (by omega), cut v o inb e (by omega)]
  exact head p (cols q e) (cols k e) (cols v e) g r d

/-- What grid point `t` leaves in the output's block: each head's rows of the staged blocks. -/
theorem point (c : Dev nD) (t : Fin cfg0.N) (r : Fin 256) (e : Fin 1024) : outsAt0 m c t (ix2 r e) =
    AttnSpec.out (AttnSpec.weightK (AttnSpec.lam fun a l => (iblk m c 0 t : FVec Ideal S4x64 .f32) (ix2 a l))
      (fun l => (iblk m c 2 t : FVec Ideal S256x1024 .f32) (ix2 r (lane e l))) (fun i l => (iblk m c 3 t : FVec Ideal S256x1024 .f32) (ix2 i (lane e l))))
      (fun j d => (iblk m c 4 t : FVec Ideal S256x1024 .f32) (ix2 j (lane e d))) (fun d => (iblk m c 1 t : FVec Ideal S1x128 .f32) (ix2 0 d)) ⟨e.val % 128, by omega⟩ := by
  unfold outsAt0
  frame_open
  simp (disch := decide) only [↓ View.readCov_skip, ↓ View.readCov_cons_toLoadRect]
  frame_out
  canon_tiles x h
  all_goals
    idx_vars x
    obtain rfl : r = x0 := Fin.ext h0
    first
    | exact tile _ _ _ _ _ r e x1 _ _ h1 (by decide)
    | exact tile _ _ _ _ _ r e x1 0 _ (h1.trans (Nat.zero_add _).symm) (by decide)

/-- The attention's result as one function of its arguments: lane `e` of row `n` is the lane of its head, the keys and values being the
rows of the same sequence of 256. -/
abbrev OUT (x0 : FVec Ideal S16384x3072 .f32) (x1 : FVec Ideal S4x64 .f32) (x2 : FVec Ideal S128 .f32) : FVec Ideal S8192x1024 .bf16 := fun i =>
  AttnSpec.out (AttnSpec.weight (AttnSpec.lam fun a l => x1 (ix2 a l)) (fun l => x0 (ix2 ⟨(i 0).val, by have := (i 0).isLt; change _ < 8192 at this; omega⟩ ⟨lane (i 1) l, by omega⟩))
      (fun j l => x0 (ix2 ⟨(i 0).val / 256 * 256 + j.val, by have := (i 0).isLt; change _ < 8192 at this; omega⟩ ⟨1024 + lane (i 1) l, by omega⟩)))
    (fun j d => x0 (ix2 ⟨(i 0).val / 256 * 256 + j.val, by have := (i 0).isLt; change _ < 8192 at this; omega⟩ ⟨2048 + lane (i 1) d, by omega⟩))
    (fun d => x2 (ix1 d)) ⟨(i 1).val % 128, by omega⟩

/-- The block each window stages at a grid point. -/
theorem idx : ∀ t : Fin cfg0.N, win0_0.index t = ![0, 0] ∧ win0_1.index t = ![0, 0] ∧ win0_2.index t = ![t.val, 0]
   ∧ win0_3.index t = ![t.val, 1] ∧ win0_4.index t = ![t.val, 2] ∧ win0_5.index t = ![t.val, 0] := (by decide +kernel : ∀ t : Fin grid0.N, _)

/-- After the run on finite queries, keys and values the output array is the attention's result. -/
theorem final (c : Dev nD) (hf : ∀ i, ∃ x : ℝ, m ((c : Thread nD τ).loc main_arg0) i = (x : EReal)) :
    (dats m 0 c).arrAt 5 (cfgs 0).N = OUT (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp; rw [after0_5]
  have ht : t.val < 32 := lt_of_lt_of_eq t.isLt N_0
  obtain ⟨i0, i1, i2, i3, i4, i5⟩ := idx t
  idx_vars y
  have he : ((View.whole main_v1).slice (win0_5.rect t)).emb (ix2 y0 y1) = ix2 ⟨t.val * 256 + y0, by omega⟩ y1 := by blk_ext [i5]
  refine (point m c t y0 y1).trans ?_
  rw [he]
  have b0 : ∀ a l, (iblk m c 0 t : FVec Ideal S4x64 .f32) (ix2 a l) = m ((c : Thread nD τ).loc main_arg1) (ix2 a l) := fun a l => by blk_point [iblk, V, i0]
  have b1 : ∀ l, (iblk m c 1 t : FVec Ideal S1x128 .f32) (ix2 0 l) = m ((c : Thread nD τ).loc main_arg2) (ix1 l) := fun l => by blk_point [iblk, V, i1]
  have b2 : ∀ r l, (iblk m c 2 t : FVec Ideal S256x1024 .f32) (ix2 r l) = m ((c : Thread nD τ).loc main_arg0) (ix2 ⟨t.val * 256 + r, by omega⟩ ⟨l.val, by omega⟩) := fun r l => by blk_point [iblk, V, i2]
  have b3 : ∀ r l, (iblk m c 3 t : FVec Ideal S256x1024 .f32) (ix2 r l) = m ((c : Thread nD τ).loc main_arg0) (ix2 ⟨t.val * 256 + r, by omega⟩ ⟨1024 + l.val, by omega⟩) := fun r l => by blk_point [iblk, V, i3]
  have b4 : ∀ r l, (iblk m c 4 t : FVec Ideal S256x1024 .f32) (ix2 r l) = m ((c : Thread nD τ).loc main_arg0) (ix2 ⟨t.val * 256 + r, by omega⟩ ⟨2048 + l.val, by omega⟩) := fun r l => by blk_point [iblk, V, i4]
  have hr : (t.val * 256 + y0.val) / 256 * 256 = t.val * 256 := by omega
  simp only [OUT, ix2_0, ix2_1, hr, b0, b1, b2, b3, b4]
  rw [AttnSpec.weightK_eq _ _ _ (fun _ => hf _) (fun _ _ => hf _)]
end
end Cert.KernelIdeal.Value

end
-- ==== Proof.KernelIdeal.Reference.lean ====
/- The reference of the attention, read at an index and compared with the formulas of `Spec`. -/
module

public import proofs.«01_k».proof.Proof.KernelIdeal.Value
public import proofs.«01_k».proof.Proof.Gen.ReferenceIdeal.Read
public import Idealize.ShloMosaic.Lib.Pipeline.ValueKit

@[expose] public section

set_option maxRecDepth 16384
noncomputable section
open Idealize.ShloMosaic Idealize.ShloMosaic.TcCoe Idealize.SL.Sem
namespace Cert.KernelIdeal.Ref
open Cert.ReferenceIdeal Cert.ReferenceIdeal.Gen Cert.ReferenceIdeal.Read

/-- The reference's second-map weight. -/
theorem refLam (x1 : FVec Ideal S4x64 .f32) (i : S_.Idx) : val_main_v23 (F := Ideal) x1 i = AttnSpec.lam fun a l => x1 (ix2 a l) := by
  pointwise [val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, AttnSpec.lam]

/-- The reference's scores. -/
theorem refScore (x0 : FVec Ideal S16384x3072 .f32) (b : Fin 32) (h : Fin 8) (a : Fin 2) (t j : Fin 256) :
    val_main_v26 (F := Ideal) x0 (ix5 b h a t j) = AttnSpec.score (64 * a.val) (by omega) (fun l => x0 (ix2 ⟨b.val * 256 + t.val, by omega⟩ ⟨h.val * 128 + l.val, by omega⟩))
      (fun l => x0 (ix2 ⟨b.val * 256 + j.val, by omega⟩ ⟨1024 + (h.val * 128 + l.val), by omega⟩)) := by
  pointwise [val_main_v0, val_main_v1, val_main_v2, val_main_v3, val_main_v5, val_main_v6, val_main_v24, val_main_v25, val_main_v26, val_main_cst_2, AttnSpec.score, Nat.add_assoc, Nat.mul_comm 64]

/-- The reference's row maximum. -/
theorem refMax (s : FVec Ideal S32x8x2x256x256 .f32) (b : Fin 32) (h : Fin 8) (a : Fin 2) (t : Fin 256) :
    Host.reduce FloatOps.maximumf s (val_main_cst_3 (F := Ideal)) reducesTo_S32x8x2x256x256_S32x8x2x256_d4 h_S_ (ix4 b h a t) = AttnSpec.top (fun j => s (ix5 b h a t j)) := by
  unfold AttnSpec.top
  pointwise [val_main_cst_3]

/-- The maximum with the fold's first value. -/
theorem maxInit (u : FVec Ideal S32x8x2x256 .f32) (b : Fin 32) (h : Fin 8) (a : Fin 2) (t : Fin 256) :
    maximumf (val_main_v28 (F := Ideal)) u (ix4 b h a t) = max (Ideal.ofBits .f32 0xFF800000#32) (u (ix4 b h a t)) := by
  unfold val_main_v28
  pointwise [val_main_cst_4]

/-- The reference's row maximum, no less than its first value. -/
theorem refTop (x0 : FVec Ideal S16384x3072 .f32) (b : Fin 32) (h : Fin 8) (a : Fin 2) (t : Fin 256) :
    val_main_v29 (F := Ideal) x0 (ix4 b h a t) = AttnSpec.top (fun j => val_main_v26 (F := Ideal) x0 (ix5 b h a t j)) := by
  rw [← AttnSpec.top_max]
  unfold val_main_v29 val_main_v27
  exact (maxInit _ b h a t).trans (congrArg (max _) (refMax _ b h a t))

/-- The reference's exponentials. -/
theorem refEx (x0 : FVec Ideal S16384x3072 .f32) (b : Fin 32) (h : Fin 8) (a : Fin 2) (t j : Fin 256) :
    val_main_v33 (F := Ideal) x0 (ix5 b h a t j) = AttnSpec.ex (fun j => val_main_v26 (F := Ideal) x0 (ix5 b h a t j)) j := by
  unfold AttnSpec.ex
  rw [← refTop]
  unfold val_main_v33 val_main_v32 val_main_v31 val_main_v30
  generalize val_main_v26 (F := Ideal) x0 = s
  generalize val_main_v29 (F := Ideal) x0 = u
  pointwise []

/-- The reference's row sums. -/
theorem refSum (x0 : FVec Ideal S16384x3072 .f32) (b : Fin 32) (h : Fin 8) (a : Fin 2) (t : Fin 256) :
    val_main_v34 (F := Ideal) x0 (ix4 b h a t) = ∑ j, val_main_v33 (F := Ideal) x0 (ix5 b h a t j) := by
  unfold val_main_v34
  generalize val_main_v33 (F := Ideal) x0 = s
  pointwise [val_main_cst_5]

/-- The reference's softmax. -/
theorem refSoft (x0 : FVec Ideal S16384x3072 .f32) (b : Fin 32) (h : Fin 8) (a : Fin 2) (t j : Fin 256) :
    val_main_v37 (F := Ideal) x0 (ix5 b h a t j) = AttnSpec.soft (fun j => val_main_v26 (F := Ideal) x0 (ix5 b h a t j)) j := by
  unfold AttnSpec.soft
  simp only [← refEx]
  rw [← refSum]
  unfold val_main_v37 val_main_v36 val_main_v35
  generalize val_main_v33 (F := Ideal) x0 = s
  generalize val_main_v34 (F := Ideal) x0 = u
  pointwise []

/-- The reference's weighted values. -/
theorem refMix (x0 : FVec Ideal S16384x3072 .f32) (x1 : FVec Ideal S4x64 .f32) (b : Fin 32) (t : Fin 256) (h : Fin 8) (d : Fin 128) :
    val_main_v46 (F := Ideal) x0 x1 (ix4 b t h d) = ∑ j : Fin 256, (val_main_v37 (F := Ideal) x0 (ix5 b h 0 t j) - val_main_v23 (F := Ideal) x1 (Shape.Idx.first h_S_) * val_main_v37 (F := Ideal) x0 (ix5 b h 1 t j))
      * x0 (ix2 ⟨b.val * 256 + j.val, by omega⟩ ⟨2048 + (h.val * 128 + d.val), by omega⟩) := by
  unfold val_main_v46 val_main_v45 val_main_v44 val_main_v43 val_main_v42 val_main_v41 val_main_v40 val_main_v39 val_main_v38
  rw [show Shape.Idx.first h_S_ = ix0 from funext fun a => a.elim0]
  generalize val_main_v37 (F := Ideal) x0 = s
  generalize val_main_v23 (F := Ideal) x1 = lm
  simp only [mul_comm (_ - _)]
  pointwise [val_main_v0, val_main_v1, val_main_v4, val_main_v7]

/-- The reference's rows. -/
theorem refOut (x0 : FVec Ideal S16384x3072 .f32) (x1 : FVec Ideal S4x64 .f32) (x2 : FVec Ideal S128 .f32) (b : Fin 32) (t : Fin 256) (h : Fin 8) (d : Fin 128) :
    val_main_v61 (F := Ideal) x0 x1 x2 (ix4 b t h d) = val_main_v46 (F := Ideal) x0 x1 (ix4 b t h d) * Ideal.rsqrt (Ideal.div (∑ e : Fin 128, val_main_v46 (F := Ideal) x0 x1 (ix4 b t h e) * val_main_v46 (F := Ideal) x0 x1 (ix4 b t h e)) (Ideal.ofBits .f32 0x43000000#32) + Ideal.ofBits .f32 0x358637BD#32)
    * x2 (ix1 d) * Ideal.ofBits .f32 0x3F077F5A#32 := by
  unfold val_main_v61 val_main_v60 val_main_v59 val_main_v58 val_main_v57 val_main_v56 val_main_v55 val_main_v54 val_main_v53 val_main_v52 val_main_v51 val_main_v50 val_main_v49 val_main_v48 val_main_v47
  generalize val_main_v46 (F := Ideal) x0 x1 = o
  pointwise [val_main_cst_6, val_main_cst_7, val_main_cst_8, val_main_cst_9]

/-- The reference's result is the attention's result. -/
theorem ref (x0 : FVec Ideal S16384x3072 .f32) (x1 : FVec Ideal S4x64 .f32) (x2 : FVec Ideal S128 .f32) :
    val_main_v63 (F := Ideal) x0 x1 x2 = Cert.KernelIdeal.Value.OUT x0 x1 x2 := by
  funext i
  idx_vars i
  have e : val_main_v63 (F := Ideal) x0 x1 x2 (ix2 i0 i1) = val_main_v61 (F := Ideal) x0 x1 x2 (ix4 ⟨i0.val / 256, by omega⟩ ⟨i0.val % 256, by omega⟩ ⟨i1.val / 128, by omega⟩ ⟨i1.val % 128, by omega⟩) := by
    unfold val_main_v63 val_main_v62
    generalize val_main_v61 (F := Ideal) x0 x1 x2 = o
    pointwise []
  rw [e, refOut]
  simp only [refMix, refSoft, refScore, refLam]
  have er : i0.val / 256 * 256 + i0.val % 256 = i0.val := by omega
  simp only [er]
  rfl

end Cert.KernelIdeal.Ref

end
-- ==== Proof.KernelIdeal.Finite.lean ====
/- What the precondition of the attention says: every entry of the queries, keys and values is a real number. -/
module

public import proofs.«01_k».proof.Pre_qkv_is_finite
public import Idealize.ShloMosaic.Lib.ReduceAll
public import Idealize.ShloMosaic.Lib.Pointwise

@[expose] public section

noncomputable section

namespace Cert.KernelIdeal.Finite

open Idealize.ShloMosaic Cert.Pre_qkv_is_finite

/-- The shape relations the predicate states. -/
instance facts : Cert.Pre_qkv_is_finite.Facts where
  bcast_S_S16384x3072 := by decide
  reducesTo_S16384x3072_S_d0_1 := by decide
  h_S_ := by decide

/-- Where the predicate holds, every entry of its first argument is a real number. -/
theorem real (x0 : FVec Ideal S16384x3072 .f32) (x1 : FVec Ideal S4x64 .f32) (x2 : FVec Ideal S128 .f32)
    (h : fn (F := Ideal) x0 x1 x2 = fun _ => 1#1) (i : S16384x3072.Idx) : ∃ x : ℝ, x0 i = (x : EReal) := by
  have e := congrFun h ix0
  unfold fn at e
  have e' := Host.reduce_andi_all _ _ _ _ _ e i
  change Ideal.cmp .olt (max (x0 i) (-(x0 i))) (Ideal.ofBits .f32 0x7F800000#32) = 1#1 at e'
  have ht : Ideal.ofBits .f32 0x7F800000#32 = ⊤ := by simp [Ideal.ofBits, Ideal.ieee]
  rw [ht] at e'
  generalize x0 i = x at e'
  induction x using EReal.rec with
  | bot => simp [Ideal.cmp] at e'
  | top => simp [Ideal.cmp] at e'
  | coe r => exact ⟨r, rfl⟩

end Cert.KernelIdeal.Finite

end
-- ==== Proof.FfnIdeal.Spec.lean ====
/- The feed-forward layer as scalar formulas over the extended reals: what one row of the result is,
   written once, so that the kernel and the reference are each compared with it. -/
module

public import Idealize.ShloMosaic.Lib.Pointwise

@[expose] public section

noncomputable section

namespace Cert.FfnSpec

open Idealize.ShloMosaic

/-- A row divided by its root mean square, times the norm's weights, scaled by `1 + scale` and shifted. -/
def normed (y g shift scale : Fin 1024 → EReal) (k : Fin 1024) : EReal :=
  y k * Ideal.rsqrt (Ideal.div (∑ l, y l * y l) (Ideal.ofBits .f32 0x44800000#32) + Ideal.ofBits .f32 0x358637BD#32)
    * g k * (1 + scale k) + shift k

/-- A normed row against one column of the first weight matrix. -/
def col (h : Fin 1024 → EReal) (w : Fin 1024 → Fin 5632 → EReal) (f : Fin 5632) : EReal :=
  ∑ k, h k * w k f

/-- The gated hidden value: `silu` of the gate column times the up column. -/
def gated (h : Fin 1024 → EReal) (w : Fin 1024 → Fin 5632 → EReal) (f : Fin 2816) : EReal :=
  col h w ⟨f, by omega⟩ * Ideal.logistic (col h w ⟨f, by omega⟩) * col h w ⟨2816 + f, by omega⟩

/-- One row of the layer's result: the row itself plus its gate times the projected hidden row. -/
def row (y g shift scale gate : Fin 1024 → EReal) (w : Fin 1024 → Fin 5632 → EReal)
    (wd : Fin 2816 → Fin 1024 → EReal) (d : Fin 1024) : EReal :=
  y d + gate d * ∑ f, gated (normed y g shift scale) w f * wd f d

/-- The row of modulation vectors that row `n` of the two streams uses: the prompt's first, then one per sample batch. -/
def modRow (n : ℕ) : ℕ := if n < 8192 then 0 else 1 + (n - 8192) / 2048

theorem modRow_lt (n : Fin 16384) : modRow n < 8 := by unfold modRow; split <;> omega

end Cert.FfnSpec

end
-- ==== Proof.FfnIdeal.Value.lean ====
/- The dense feed-forward kernel and its reference, each read at an index and compared with the row formula of `Spec`. -/
module

public import proofs.«01_k».proof.Proof.Gen.FfnIdeal.Frame
public import proofs.«01_k».proof.Proof.FfnIdeal.Spec
public import proofs.«01_k».proof.Proof.Gen.FfnRefIdeal.Read
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.FfnIdeal.Value
open Cert.FfnSpec (modRow modRow_lt)
section
open Cert.FfnIdeal Cert.FfnIdeal.Gen

/-- The normalised rows the kernel keeps for its tiles: the row formula at a row and a lane. -/
theorem pay1 (v0 : FVec Ideal S512x1024 .f32) (v1 : FVec Ideal S1x1024 .f32) (v3 v5 : FVec Ideal S1x1x1024 .f32) (r : Fin 512) (k : Fin 1024) :
   k0_pay1 (F := Ideal) v0 v1 v3 v5 (ix2 r k) = FfnSpec.normed (fun l => v0 (ix2 r l)) (fun l => v1 (ix2 0 l)) (fun l => v3 (ix3 0 0 l)) (fun l => v5 (ix3 0 0 l)) k := by
  pointwise [k0_pay1, FfnSpec.normed]

/-- What the kernel stores: the row plus its gate times the hidden row against the second weights. -/
theorem pay18 (v0 : FVec Ideal S512x1024 .f32) (g : FVec Ideal S1x1024 .f32) (act : FVec Ideal S512x2816 .bf16) (wd : FVec Ideal S2816x1024 .bf16) (r : Fin 512) (d : Fin 1024) :
   k0_pay18 (F := Ideal) v0 g act wd (ix2 r d) = v0 (ix2 r d) + g (ix2 0 d) * ∑ f : Fin 2816, act (ix2 r f) * wd (ix2 f d) := by
  pointwise [k0_pay18]
variable (m : (ℓ : Loc nD τ sig) → Buf (Elt Ideal) ℓ)

/-- What grid point `t` leaves in the output's block, row by row: the row formula of the staged blocks. The hidden
row is stored tile by tile (eleven tiles of 256 lanes) and read back whole. -/
theorem point (c : Dev nD) (t : Fin cfg0.N) (r : Fin 512) (d : Fin 1024) : outsAt0 m c t (ix2 r d) =
    FfnSpec.row (fun l => (iblk m c 0 t : FVec Ideal S512x1024 .f32) (ix2 r l)) (fun l => (iblk m c 1 t : FVec Ideal S1x1024 .f32) (ix2 0 l))
     (fun l => (iblk m c 2 t : FVec Ideal S1x6x1024 .f32) (ix3 0 3 l)) (fun l => (iblk m c 2 t : FVec Ideal S1x6x1024 .f32) (ix3 0 4 l)) (fun l => (iblk m c 2 t : FVec Ideal S1x6x1024 .f32) (ix3 0 5 l))
     (fun k f => (iblk m c 3 t : FVec Ideal S1024x5632 .bf16) (ix2 k f)) (fun f d => (iblk m c 4 t : FVec Ideal S2816x1024 .bf16) (ix2 f d)) d := by
  unfold outsAt0; frame_out
  rw [View.readCov_eq_canon']
  refine (pay18 _ _ _ _ r d).trans ?_
  unfold FfnSpec.row
  refine Ideal.add_congr rfl (Ideal.mul_congr (by pointwise [k0_pay2]) ?_)
  refine Finset.sum_congr rfl fun f _ => Ideal.mul_congr ?_ rfl
  have e : ∀ j : S512x2816.Idx, LoadRect.idx (Rect.unit ![0, 0] ![512, 2816] inb_S512x2816_S512x2816_0_0).toLoadRect j = j := fun j => by
    show (Rect.unit (s := S512x2816) ![0, 0] ![512, 2816] inb_S512x2816_S512x2816_0_0).emb j = j
    blk_ext
  rw [e]
  canon_tiles x h
  all_goals
    open_payloads
    idx_vars x
    pointwise [FfnSpec.gated, FfnSpec.col, FfnSpec.normed]
    obtain rfl : r = x0 := Fin.ext h0
    simp only [h1, ← Nat.add_assoc, Nat.reduceAdd, Nat.zero_add, Nat.add_zero]

/-- The layer's result as one function of its arguments. -/
abbrev OUT (x0 : FVec Ideal S16384x1024 .f32) (x1 : FVec Ideal S1024 .f32) (x2 : FVec Ideal S8x6x1024 .f32) (x3 : FVec Ideal S1024x5632 .f32) (x4 : FVec Ideal S2816x1024 .f32) : FVec Ideal S16384x1024 .f32 := fun i =>
  FfnSpec.row (fun l => x0 (ix2 (i 0) l)) (fun l => x1 (ix1 l)) (fun l => x2 (ix3 ⟨modRow (i 0), modRow_lt _⟩ 3 l)) (fun l => x2 (ix3 ⟨modRow (i 0), modRow_lt _⟩ 4 l))
    (fun l => x2 (ix3 ⟨modRow (i 0), modRow_lt _⟩ 5 l)) (fun k f => x3 (ix2 k f)) (fun f d => x4 (ix2 f d)) (i 1)

/-- The block each window stages at a grid point. -/
theorem idx : ∀ t : Fin cfg0.N, win0_0.index t = ![t.val, 0] ∧ win0_1.index t = ![0, 0] ∧ win0_2.index t = ![modRow (t.val * 512), 0, 0]
   ∧ win0_3.index t = ![0, 0] ∧ win0_4.index t = ![0, 0] ∧ win0_5.index t = ![t.val, 0] := (by decide +kernel : ∀ t : Fin grid0.N, _)

/-- After the run the output array is the layer's result. -/
theorem final (c : Dev nD) : (dats m 0 c).arrAt 5 (cfgs 0).N = OUT (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp; rw [after0_5]
  have ht : t.val < 32 := lt_of_lt_of_eq t.isLt N_0
  obtain ⟨i0, i1, i2, i3, i4, i5⟩ := idx t
  idx_vars y
  have he : ((View.whole main_v3).slice (win0_5.rect t)).emb (ix2 y0 y1) = ix2 ⟨t.val * 512 + y0, by omega⟩ y1 := by blk_ext [i5]
  refine (point m c t y0 y1).trans ?_
  rw [he]
  have hm : modRow (t.val * 512 + y0) = modRow (t.val * 512) := by
    unfold modRow; split <;> split <;> omega
  have b0 : ∀ l, (iblk m c 0 t : FVec Ideal S512x1024 .f32) (ix2 y0 l) = m ((c : Thread nD τ).loc main_arg0) (ix2 ⟨t.val * 512 + y0, by omega⟩ l) := fun l => by blk_point [iblk, V, i0]
  have b1 : ∀ l, (iblk m c 1 t : FVec Ideal S1x1024 .f32) (ix2 0 l) = m ((c : Thread nD τ).loc main_arg1) (ix1 l) := fun l => by blk_point [iblk, V, i1]
  have b2 : ∀ (s : Fin 6) l, (iblk m c 2 t : FVec Ideal S1x6x1024 .f32) (ix3 0 s l) = m ((c : Thread nD τ).loc main_arg2) (ix3 ⟨modRow (t.val * 512), modRow_lt ⟨t.val * 512, by omega⟩⟩ s l) := fun s l => by blk_point [iblk, V, i2]
  have b3 : ∀ k f, (iblk m c 3 t : FVec Ideal S1024x5632 .bf16) (ix2 k f) = m ((c : Thread nD τ).loc main_arg3) (ix2 k f) := fun k f => by blk_point [iblk, V, i3]
  have b4 : ∀ k f, (iblk m c 4 t : FVec Ideal S2816x1024 .bf16) (ix2 k f) = m ((c : Thread nD τ).loc main_arg4) (ix2 k f) := fun k f => by blk_point [iblk, V, i4]
  simp only [OUT, ix2_0, ix2_1, hm, b0, b1, b2, b3, b4]
end
section
open Cert.FfnRefIdeal Cert.FfnRefIdeal.Gen Cert.FfnRefIdeal.Read

/-- The reference's normalised prompt rows. -/
theorem ref1 (x0 : FVec Ideal S16384x1024 .f32) (x1 : FVec Ideal S1024 .f32) (x2 : FVec Ideal S8x6x1024 .f32)
  (b : Fin 32) (t : Fin 256) (k : Fin 1024) : val_main_v27 (F := Ideal) x0 x1 x2 (ix3 b t k) = FfnSpec.normed (fun l => x0 (ix2 ⟨b * 256 + t, by omega⟩ l)) (fun l => x1 (ix1 l)) (fun l => x2 (ix3 0 3 l)) (fun l => x2 (ix3 0 4 l)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, FfnSpec.normed]

/-- The reference's normalised sample rows. -/
theorem ref2 (x0 : FVec Ideal S16384x1024 .f32) (x1 : FVec Ideal S1024 .f32) (x2 : FVec Ideal S8x6x1024 .f32)
  (b : Fin 4) (t : Fin 2048) (k : Fin 1024) : val_main_v67 (F := Ideal) x0 x1 x2 (ix3 b t k) = FfnSpec.normed (fun l => x0 (ix2 ⟨8192 + (b * 2048 + t), by omega⟩ l)) (fun l => x1 (ix1 l)) (fun l => x2 (ix3 ⟨1 + b, by omega⟩ 3 l)) (fun l => x2 (ix3 ⟨1 + b, by omega⟩ 4 l)) k := by
  pointwise [val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_cst_3, val_main_cst_4, val_main_cst_5, val_main_cst_6, FfnSpec.normed]

/-- The reference's prompt rows. -/
theorem ref1' (x0 : FVec Ideal S16384x1024 .f32) (x1 : FVec Ideal S1024 .f32) (x2 : FVec Ideal S8x6x1024 .f32) (x3 : FVec Ideal S1024x5632 .f32) (x4 : FVec Ideal S2816x1024 .f32)
  (b : Fin 32) (t : Fin 256) (k : Fin 1024) :
   val_main_v39 (F := Ideal) x0 x1 x2 x3 x4 (ix3 b t k) = FfnSpec.row (fun l => x0 (ix2 ⟨b * 256 + t, by omega⟩ l)) (fun l => x1 (ix1 l)) (fun l => x2 (ix3 0 3 l)) (fun l => x2 (ix3 0 4 l)) (fun l => x2 (ix3 0 5 l))
    (fun k f => x3 (ix2 k f)) (fun f d => x4 (ix2 f d)) k := by
  pointwise [val_main_v0, val_main_v1, val_main_v2, val_main_v28, val_main_v29, val_main_v30, val_main_v31, val_main_v32, val_main_v33, val_main_v34, val_main_v35, val_main_v36, val_main_v37, val_main_v38, val_main_v39, val_main_v80, val_main_call0_v0, val_main_call0_v1, val_main_call0_v2, val_main_call0_v3, val_main_call0_v4, val_main_call0_v5, val_main_call0_cst, val_main_call0_cst_0, ref1, FfnSpec.row, FfnSpec.gated, FfnSpec.col, Ideal.logistic]

/-- The reference's sample rows. -/
theorem ref2' (x0 : FVec Ideal S16384x1024 .f32) (x1 : FVec Ideal S1024 .f32) (x2 : FVec Ideal S8x6x1024 .f32) (x3 : FVec Ideal S1024x5632 .f32) (x4 : FVec Ideal S2816x1024 .f32)
  (b : Fin 4) (t : Fin 2048) (k : Fin 1024) :
   val_main_v79 (F := Ideal) x0 x1 x2 x3 x4 (ix3 b t k) = FfnSpec.row (fun l => x0 (ix2 ⟨8192 + (b * 2048 + t), by omega⟩ l)) (fun l => x1 (ix1 l)) (fun l => x2 (ix3 ⟨1 + b, by omega⟩ 3 l)) (fun l => x2 (ix3 ⟨1 + b, by omega⟩ 4 l)) (fun l => x2 (ix3 ⟨1 + b, by omega⟩ 5 l))
    (fun k f => x3 (ix2 k f)) (fun f d => x4 (ix2 f d)) k := by
  pointwise [val_main_v40, val_main_v41, val_main_v42, val_main_v68, val_main_v69, val_main_v70, val_main_v71, val_main_v72, val_main_v73, val_main_v74, val_main_v75, val_main_v76, val_main_v77, val_main_v78, val_main_v79, val_main_call1_v0, val_main_call1_v1, val_main_call1_v2, val_main_call1_v3, val_main_call1_v4, val_main_call1_v5, val_main_call1_cst, val_main_call1_cst_0, ref2, FfnSpec.row, FfnSpec.gated, FfnSpec.col, Ideal.logistic]

/-- The reference's result is the layer's result. -/
theorem ref (x0 : FVec Ideal S16384x1024 .f32) (x1 : FVec Ideal S1024 .f32) (x2 : FVec Ideal S8x6x1024 .f32) (x3 : FVec Ideal S1024x5632 .f32) (x4 : FVec Ideal S2816x1024 .f32) :
   val_main_v82 (F := Ideal) x0 x1 x2 x3 x4 = OUT x0 x1 x2 x3 x4 := by
  funext i
  idx_vars i
  pointwise [val_main_v82, val_main_v80, val_main_v81, ref1', ref2', OUT]
  by_cases h : (i0 : ℕ) < 8192
  · rw [dif_pos h]
    have e : (i0 : ℕ) / 256 * 256 + (i0 : ℕ) % 256 = i0 := by omega
    have e' : modRow i0 = 0 := if_pos h
    simp only [e, e', Fin.eta, Fin.zero_eta]
  · rw [dif_neg h]
    have e : 8192 + (((i0 : ℕ) - 8192) / 2048 * 2048 + ((i0 : ℕ) - 8192) % 2048) = i0 := by omega
    have e' : modRow i0 = 1 + ((i0 : ℕ) - 8192) / 2048 := if_neg h
    simp only [e, e', Fin.eta]
end
end Cert.FfnIdeal.Value

end
-- ==== Proof.Experts.Range.lean ====
/- What the precondition of the experts' call says: every tile names one of the eight experts. -/
module

public import proofs.«01_k».proof.Proof.Gen.Pre_experts_in_range
public import Idealize.ShloMosaic.Lib.ReduceAll
public import Idealize.ShloMosaic.Lib.Pointwise

@[expose] public section

noncomputable section

namespace Cert.Pre_experts_in_range

open Idealize.ShloMosaic

/-- A word that is at least zero and below eight as a signed number is below eight as a number. -/
theorem below (w : BitVec 32) (h : IntOp.andi (IntOp.cmpi .sge w 0#32) (IntOp.cmpi .slt w 8#32) = 1#1) : w.toNat < 8 := by
  have h1 : (0#32).sle w = true ∧ w.slt 8#32 = true := by
    revert h
    show BitVec.ofBool ((0#32).sle w) &&& BitVec.ofBool (w.slt 8#32) = 1#1 → _
    cases (0#32).sle w <;> cases w.slt 8#32 <;> decide
  simp only [BitVec.sle, BitVec.slt, decide_eq_true_eq] at h1
  obtain ⟨h0, h8⟩ := h1
  have e0 : (0#32).toInt = 0 := by decide
  have e8 : (8#32).toInt = 8 := by decide
  rw [e0] at h0
  rw [e8] at h8
  rw [BitVec.toInt_eq_toNat_cond] at h0 h8
  have := w.isLt
  split at h0 <;> omega

/-- Where the predicate holds, every entry of its first argument is below eight. -/
theorem in_range {F : FTy → Type} [FloatOps F] (x0 x1 : IVec S136 32) (x2 : FVec F S34816x8x128 .f32) (x3 : FVec F S8x1024x5632 .bf16)
    (x4 : FVec F S8x2816x1024 .bf16) (h : fn x0 x1 x2 x3 x4 = fun _ => 1#1) (i : S136.Idx) : (x0 i).toNat < 8 := by
  have e := congrFun h ix0
  unfold fn at e
  exact below _ (Host.reduce_andi_all _ _ _ _ _ e i)

end Cert.Pre_experts_in_range

end
-- ==== Proof.ExpertsIdeal.Spec.lean ====
/- The experts' call as scalar formulas over the extended reals: what one row of the result is, so that the kernel
   and the reference are each compared with it. -/
module

public import proofs.«01_k».proof.Proof.FfnIdeal.Spec
public import proofs.«01_k».proof.Proof.Experts.Range

@[expose] public section

noncomputable section

namespace Cert.ExpertsSpec

open Idealize.ShloMosaic Cert.Pre_experts_in_range

/-- A row of tokens, its 1024 lanes kept as eight groups of 128. -/
def lanes (x : FVec Ideal S34816x8x128 .f32) (r : Fin 34816) (d : Fin 1024) : EReal :=
  x (ix3 r ⟨d / 128, by omega⟩ ⟨d % 128, by omega⟩)

/-- The feed-forward network of expert `e` on a row. -/
def expert (y : Fin 1024 → EReal) (w : FVec Ideal S8x1024x5632 .bf16) (wd : FVec Ideal S8x2816x1024 .bf16) (e : Fin 8) (d : Fin 1024) : EReal :=
  ∑ f, FfnSpec.gated y (fun k f => w (ix3 e k f)) f * wd (ix3 e f d)

/-- The tile of 256 rows a row is in. -/
def tile (r : Fin 34816) : Fin 136 := ⟨r / 256, by omega⟩

/-- The result: every row of a tile in use goes through the expert its tile names, and the other rows are zero. -/
def OUT (x0 x1 : IVec S136 32) (h : ∀ i : S136.Idx, BitVec.toNat (x0 i) < 8) (x2 : FVec Ideal S34816x8x128 .f32)
    (x3 : FVec Ideal S8x1024x5632 .bf16) (x4 : FVec Ideal S8x2816x1024 .bf16) : FVec Ideal S34816x8x128 .f32 := fun i =>
  if x1 (ix1 (tile (i 0))) = 1#32 then
    expert (lanes x2 (i 0)) x3 x4 ⟨BitVec.toNat (x0 (ix1 (tile (i 0)))), h _⟩ ⟨(i 1).val * 128 + (i 2).val, by have h1 : (i 1).val < 8 := (i 1).isLt; have h2 : (i 2).val < 128 := (i 2).isLt; omega⟩
  else 0

end Cert.ExpertsSpec

end
-- ==== Proof.ExpertsIdeal.Reference.lean ====
/- The reference of the experts' call, read at an index: the formula of `Spec`. -/
module

public import proofs.«01_k».proof.Proof.ExpertsIdeal.Spec
public import proofs.«01_k».proof.Proof.Gen.ExpertsRefIdeal.Read
public import Idealize.ShloMosaic.Lib.WordCmp
public import Idealize.ShloMosaic.Lib.Pipeline.ValueKit

@[expose] public section

set_option maxRecDepth 16384
noncomputable section
open Idealize.ShloMosaic Idealize.ShloMosaic.TcCoe Idealize.SL.Sem
namespace Cert.ExpertsIdeal.Reference
open Cert.ExpertsRefIdeal Cert.ExpertsRefIdeal.Gen Cert.ExpertsRefIdeal.Read

/-- A row against one column of an expert's first weights. -/
theorem col (x2 : FVec Ideal S34816x8x128 .f32) (x3 : FVec Ideal S8x1024x5632 .bf16) (e : Fin 8) (r : Fin 34816) (f : Fin 5632) :
    val_main_v21 (F := Ideal) x2 x3 (ix3 e r f) = FfnSpec.col (ExpertsSpec.lanes x2 r) (fun k f => x3 (ix3 e k f)) f := by
  pointwise [val_main_v0, val_main_v19, val_main_v20, val_main_v21, FfnSpec.col, ExpertsSpec.lanes]
  exact Finset.sum_congr rfl fun k _ => mul_comm _ _

/-- The gated hidden row. -/
theorem hidden (x2 : FVec Ideal S34816x8x128 .f32) (x3 : FVec Ideal S8x1024x5632 .bf16) (e : Fin 8) (r : Fin 34816) (f : Fin 2816) :
    val_main_v25 (F := Ideal) x2 x3 (ix3 e r f) = FfnSpec.gated (ExpertsSpec.lanes x2 r) (fun k f => x3 (ix3 e k f)) f := by
  pointwise [val_main_v22, val_main_v23, val_main_v24, val_main_v25, val_main_call1_v0, val_main_call1_v1, val_main_call1_v2, val_main_call1_v3, val_main_call1_v4, val_main_call1_v5, val_main_call1_cst, val_main_call1_cst_0, col, FfnSpec.gated, Ideal.logistic]

/-- Every expert's network on every row. -/
theorem each (x2 : FVec Ideal S34816x8x128 .f32) (x3 : FVec Ideal S8x1024x5632 .bf16) (x4 : FVec Ideal S8x2816x1024 .bf16) (e : Fin 8) (r : Fin 34816) (d : Fin 1024) :
    val_main_v27 (F := Ideal) x2 x3 x4 (ix3 e r d) = ExpertsSpec.expert (ExpertsSpec.lanes x2 r) x3 x4 e d := by
  pointwise [val_main_v26, val_main_v27, hidden, ExpertsSpec.expert]

/-- One where both words are equal, zero elsewhere. -/
theorem pick (a b w : BitVec 32) : Scalar.select (IntOp.andi (IntOp.cmpi .eq a w) (IntOp.cmpi .eq b 1#32)) (1 : EReal) 0 = if a = w ∧ b = 1#32 then 1 else 0 := by
  rw [WordCmp.cmpi_eq_eq, WordCmp.cmpi_eq_eq, WordCmp.andi_ofBool, ← Bool.decide_and]
  by_cases h : a = w ∧ b = 1#32
  · rw [decide_eq_true h, if_pos h]; rfl
  · rw [decide_eq_false h, if_neg h]; rfl

/-- The gate of an expert at a row: one where the row's tile is in use and names the expert. -/
theorem gate (x0 x1 : IVec S136 32) (e : Fin 8) (r : Fin 34816) :
    val_main_v18 (F := Ideal) x0 x1 (ix2 e r) = if x0 (ix1 (ExpertsSpec.tile r)) = BitVec.ofNat 32 e ∧ x1 (ix1 (ExpertsSpec.tile r)) = 1#32 then 1 else 0 := by
  pointwise [val_main_v1, val_main_v2, val_main_v3, val_main_v4, val_main_v5, val_main_v6, val_main_v7, val_main_v8, val_main_v9, val_main_v10, val_main_v11, val_main_v12, val_main_v13, val_main_c, val_main_v14, val_main_v15, val_main_v16, val_main_v17, val_main_cst, val_main_cst_0, val_main_call0_v0, val_main_call0_v1, val_main_v18, ExpertsSpec.tile]
  exact pick _ _ _

/-- The gated sum over the experts. -/
theorem gathered (x0 x1 : IVec S136 32) (x2 : FVec Ideal S34816x8x128 .f32) (x3 : FVec Ideal S8x1024x5632 .bf16) (x4 : FVec Ideal S8x2816x1024 .bf16) (r : Fin 34816) (d : Fin 1024) :
    val_main_v32 (F := Ideal) x0 x1 x2 x3 x4 (ix2 r d) = ∑ e : Fin 8, val_main_v18 (F := Ideal) x0 x1 (ix2 e r) * ExpertsSpec.expert (ExpertsSpec.lanes x2 r) x3 x4 e d := by
  pointwise [val_main_v28, val_main_v29, val_main_v30, val_main_v31, val_main_v32, val_main_cst_1, each]
  simp only [id_eq]
  pointwise []

/-- The reference's result is the formula of `Spec`. -/
theorem ref (x0 x1 : IVec S136 32) (h : ∀ i : S136.Idx, BitVec.toNat (x0 i) < 8) (x2 : FVec Ideal S34816x8x128 .f32) (x3 : FVec Ideal S8x1024x5632 .bf16) (x4 : FVec Ideal S8x2816x1024 .bf16) :
    val_main_v33 (F := Ideal) x0 x1 x2 x3 x4 = ExpertsSpec.OUT x0 x1 h x2 x3 x4 := by
  funext i
  idx_vars i
  pointwise [val_main_v33, gathered, ExpertsSpec.OUT]
  simp only [gate]
  by_cases hv : x1 (ix1 (ExpertsSpec.tile i0)) = 1#32
  · rw [if_pos hv]
    rw [Finset.sum_eq_single (⟨BitVec.toNat (x0 (ix1 (ExpertsSpec.tile i0))), h _⟩ : Fin 8)]
    · rw [if_pos ⟨by simp, hv⟩, one_mul]
    · intro e _ he
      rw [if_neg, zero_mul]
      rintro ⟨e', -⟩
      apply he
      apply Fin.ext
      show (e : ℕ) = BitVec.toNat _
      rw [e', BitVec.toNat_ofNat]
      omega
    · intro hn; exact absurd (Finset.mem_univ _) hn
  · rw [if_neg hv]
    refine Finset.sum_eq_zero fun e _ => ?_
    rw [if_neg fun hh => hv hh.2, zero_mul]

end Cert.ExpertsIdeal.Reference

end
-- ==== Proof.ExpertsIdeal.Body.lean ====
/- The body of the experts' call, run once at a used tile and once at an unused one. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

/-- The first table (the tile's expert) as the body is handed it. -/
abbrev tab0 : Memref sig .tc .smem S136 .i32 := Memref.whole main_arg0
/-- The second table (is the tile used) as the body is handed it. -/
abbrev tab1 : Memref sig .tc .smem S136 .i32 := Memref.whole main_arg1
/-- The scratch of the tile's rows. -/
abbrev scr0 : Memref sig .tc .vmem S256x1024 .bf16 := Memref.whole cc0_scratch0
/-- The scratch of the hidden rows. -/
abbrev scr1 : Memref sig .tc .vmem S256x2816 .bf16 := Memref.whole cc0_scratch1

/-- The contents of a table's buffer. -/
abbrev TabBuf (c : Dev nD) {S : Shape} {e : EltTy} (M : Memref sig .tc .smem S e) : Type := Buf (Elt F) (M.view.loc (c : Thread nD τ))
/-- A table's buffer held, for reading, at half the full share. -/
abbrev tabPt (c : Dev nD) {S : Shape} {e : EltTy} (M : Memref sig .tc .smem S e) (f : TabBuf (F := F) c M) : sProp 𝕄 :=
  M.view.loc (c : Thread nD τ) ↦{fullShare.right} f

/-- The word the body reads at the grid point `i`: is the tile used. -/
def word (c : Dev nD) (i : grid0.Coords) (t1 : TabBuf (F := F) c tab1) : BitVec 32 :=
  View.readAt (Elt F) tab1.view (Rect.unit (s := S136) (k0_off1 i) S1.size (k0_off1_inb i)).toLoadRect t1 (Shape.Idx.first (numel1_S1.symm ▸ Nat.one_pos))

set_option maxHeartbeats 2000000 in
/-- What the body stores into the output's buffer at a used tile, as pieces (the last store first), with the proof that the body runs and stores them. -/
def runUsed (c : Dev nD) (i : grid0.Coords) (a3 : Memref sig .tc .vmem S256x8x128 .f32) (h3 : a3.IsWhole) (a4 : Memref sig .tc .vmem S1x1024x5632 .bf16) (h4 : a4.IsWhole) (a5 : Memref sig .tc .vmem S1x2816x1024 .bf16) (h5 : a5.IsWhole) (a6 : Memref sig .tc .vmem S256x8x128 .f32) (h6 : a6.IsWhole) (a7 : Memref sig .tc .vmem S256x1024 .bf16) (h7 : a7.IsWhole) (a8 : Memref sig .tc .vmem S256x2816 .bf16) (h8 : a8.IsWhole)
    (x0 : Vec F S256x8x128 .f32) (x1 : Vec F S1x1024x5632 .bf16) (x2 : Vec F S1x2816x1024 .bf16) (t0 : TabBuf (F := F) c tab0) (t1 : TabBuf (F := F) c tab1)
    (hc1 : k0_cond1 (word c i t1) = 1#1) (hc2 : ¬ k0_cond2 (word c i t1) = 1#1) :
    { L : List (View.Piece (Elt F) S256x8x128 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ (∃ d, owns (c : Thread nD τ) a7 fullShare d) ∗ (∃ d, owns (c : Thread nD τ) a8 fullShare d) ∗ tabPt c tab0 t0 ∗ tabPt c tab1 t1
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f L) ∗ (∃ d, owns (c : Thread nD τ) a7 fullShare d) ∗ (∃ d, owns (c : Thread nD τ) a8 fullShare d) ∗ tabPt c tab0 t0 ∗ tabPt c tab1 t1) -∗ K ⟨⟩))
          ⊢ wp frame (wpE (defs₀ (F := F)) Variants.none c none) E (cc0_moe_experts i tab0 (Memref.isWhole_whole _) tab1 (Memref.isWhole_whole _) a3 h3 a4 h4 a5 h5 a6 h6 a7 h7 a8 h8) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, Hk⟩
    obtain rfl := h3.eq_unread hf0; obtain rfl := h4.eq_unread hf1; obtain rfl := h5.eq_unread hf2
    sl_exec (disch := first | sl_exact hc1 | sl_exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HT0]; · iexact HT0
    iexact HT1

set_option maxHeartbeats 2000000 in
/-- What the body stores at an unused tile, with the proof that the body runs and stores it. -/
def runIdle (c : Dev nD) (i : grid0.Coords) (a3 : Memref sig .tc .vmem S256x8x128 .f32) (h3 : a3.IsWhole) (a4 : Memref sig .tc .vmem S1x1024x5632 .bf16) (h4 : a4.IsWhole) (a5 : Memref sig .tc .vmem S1x2816x1024 .bf16) (h5 : a5.IsWhole) (a6 : Memref sig .tc .vmem S256x8x128 .f32) (h6 : a6.IsWhole) (a7 : Memref sig .tc .vmem S256x1024 .bf16) (h7 : a7.IsWhole) (a8 : Memref sig .tc .vmem S256x2816 .bf16) (h8 : a8.IsWhole)
    (x0 : Vec F S256x8x128 .f32) (x1 : Vec F S1x1024x5632 .bf16) (x2 : Vec F S1x2816x1024 .bf16) (t0 : TabBuf (F := F) c tab0) (t1 : TabBuf (F := F) c tab1)
    (hc1 : ¬ k0_cond1 (word c i t1) = 1#1) (hc2 : k0_cond2 (word c i t1) = 1#1) :
    { L : List (View.Piece (Elt F) S256x8x128 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ (∃ d, owns (c : Thread nD τ) a7 fullShare d) ∗ (∃ d, owns (c : Thread nD τ) a8 fullShare d) ∗ tabPt c tab0 t0 ∗ tabPt c tab1 t1
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f L) ∗ (∃ d, owns (c : Thread nD τ) a7 fullShare d) ∗ (∃ d, owns (c : Thread nD τ) a8 fullShare d) ∗ tabPt c tab0 t0 ∗ tabPt c tab1 t1) -∗ K ⟨⟩))
          ⊢ wp frame (wpE (defs₀ (F := F)) Variants.none c none) E (cc0_moe_experts i tab0 (Memref.isWhole_whole _) tab1 (Memref.isWhole_whole _) a3 h3 a4 h4 a5 h5 a6 h6 a7 h7 a8 h8) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, Hk⟩
    obtain rfl := h3.eq_unread hf0; obtain rfl := h4.eq_unread hf1; obtain rfl := h5.eq_unread hf2
    sl_exec (disch := first | sl_exact hc1 | sl_exact hc2)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HT0]; · iexact HT0
    iexact HT1

end Cert.ExpertsIdeal.Hand

end
-- ==== Proof.ExpertsIdeal.Run.lean ====
/- The launch of the experts' call: every run ends, and what it leaves. -/
module

public import proofs.«01_k».proof.Proof.ExpertsIdeal.Body
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- What a core's buffers hold when the call is entered: what they held at the launch. -/
abbrev V (c : Dev nD) (b : Ref sig .tc) : Buf (Elt F) ((c : Thread nD τ).loc b) := m ((c : Thread nD τ).loc b)

/-- The program is the call alone. -/
theorem entry (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables as the call finds them. -/
def tbl : pre0.Contents (Elt F) := fun j => V m (0 : Dev nD) (pre0.ref j)

/-- Every core finds the same tables (there is one core). -/
theorem V_tbl (c : Dev nD) (j : Fin 2) : V m c (pre0.ref j) = tbl m j := by
  obtain rfl : c = 0 := Subsingleton.elim _ _
  rfl

/-- Every tile's expert is one of the eight: each block lies inside its array. -/
abbrev Ok : Prop := ok0 (F := F) (tbl m)

/-- The tables together with the proof that they are admissible, -/
abbrev adm (hO : Ok m) : (pcfg0 (F := F)).Adm := ⟨tbl m, hO⟩

/-- and the pipeline at them. -/
abbrev cfgM (hO : Ok m) : Pipeline.Cfg sig Λ₀ := cfg0 (adm m hO)

/-- The tables' halves the body is handed, table by table. -/
theorem tables_eq (c : Dev nD) : (Pipeline.ΦT pre0 (tbl m) c : sProp 𝕄) = iprop(tabPt c tab0 (tbl m 0) ∗ tabPt c tab1 (tbl m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point, read off its array. -/
def blkAt (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input 0's buffer holds its block at every point. -/
theorem held0 (hO : Ok m) {c : Dev nD} (dat : Dat τ (Elt F) Unit ℕ (UR sig nD τ) ℕ (cfgM m hO) c) (hA : dat.A 0 = V m c (Pipeline.arrRef spec0 0))
    (hafter : ∀ t, dat.after 0 t = blkAt m hO c 0 t) (t : Fin (cfgM m hO).N) (d) : dat.before 0 t d = blkAt m hO c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)

/-- Input 1's buffer holds its block at every point. -/
theorem held1 (hO : Ok m) {c : Dev nD} (dat : Dat τ (Elt F) Unit ℕ (UR sig nD τ) ℕ (cfgM m hO) c) (hA : dat.A 1 = V m c (Pipeline.arrRef spec0 1))
    (hafter : ∀ t, dat.after 1 t = blkAt m hO c 1 t) (t : Fin (cfgM m hO).N) (d) : dat.before 1 t d = blkAt m hO c 1 t :=
  (dat.before_in_eq_fetched 1 rfl (fun _ => rfl) (fun _ _ _ => rfl) (fun t => by rw [hafter]; unfold Dat.blockOf blkAt; rw [hA]; try rfl) t d).trans
    (by unfold Dat.fetched Dat.blockOf blkAt; rw [hA]; try rfl)

/-- Input 2's buffer holds its block at every point. -/
theorem held2 (hO : Ok m) {c : Dev nD} (dat : Dat τ (Elt F) Unit ℕ (UR sig nD τ) ℕ (cfgM m hO) c) (hA : dat.A 2 = V m c (Pipeline.arrRef spec0 2))
    (hafter : ∀ t, dat.after 2 t = blkAt m hO c 2 t) (t : Fin (cfgM m hO).N) (d) : dat.before 2 t d = blkAt m hO c 2 t :=
  (dat.before_in_eq_fetched 2 rfl (fun _ => rfl) (fun _ _ _ => rfl) (fun t => by rw [hafter]; unfold Dat.blockOf blkAt; rw [hA]; try rfl) t d).trans
    (by unfold Dat.fetched Dat.blockOf blkAt; rw [hA]; try rfl)

/-! ## The staging buffers at a point -/

/-- Window 0's buffer at the point `t`, -/
abbrev buf0 (hO : Ok m) (t : Fin (cfgM m hO).N) : Memref sig .tc .vmem S256x8x128 .f32 := spec0_0.stage ((cfgM m hO).slots t 0)
/-- which is whole. -/
abbrev whole0 (hO : Ok m) (t : Fin (cfgM m hO).N) : (buf0 m hO t).IsWhole := hstage0_0 (((cfgM m hO).slots t 0).cast nbuf0_0)

/-- Window 1's buffer at the point `t`, -/
abbrev buf1 (hO : Ok m) (t : Fin (cfgM m hO).N) : Memref sig .tc .vmem S1x1024x5632 .bf16 := spec0_1.stage ((cfgM m hO).slots t 1)
/-- which is whole. -/
abbrev whole1 (hO : Ok m) (t : Fin (cfgM m hO).N) : (buf1 m hO t).IsWhole := hstage0_1 (((cfgM m hO).slots t 1).cast nbuf0_1)

/-- Window 2's buffer at the point `t`, -/
abbrev buf2 (hO : Ok m) (t : Fin (cfgM m hO).N) : Memref sig .tc .vmem S1x2816x1024 .bf16 := spec0_2.stage ((cfgM m hO).slots t 2)
/-- which is whole. -/
abbrev whole2 (hO : Ok m) (t : Fin (cfgM m hO).N) : (buf2 m hO t).IsWhole := hstage0_2 (((cfgM m hO).slots t 2).cast nbuf0_2)

/-- Window 3's buffer at the point `t`, -/
abbrev buf3 (hO : Ok m) (t : Fin (cfgM m hO).N) : Memref sig .tc .vmem S256x8x128 .f32 := spec0_3.stage ((cfgM m hO).slots t 3)
/-- which is whole. -/
abbrev whole3 (hO : Ok m) (t : Fin (cfgM m hO).N) : (buf3 m hO t).IsWhole := hstage0_3 (((cfgM m hO).slots t 3).cast nbuf0_3)

/-- The two scratch buffers, at any contents, and the generator's register. -/
theorem scratch_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## What the body leaves -/

/-- Of the two conditions exactly one holds. -/
theorem one_or_other (w : BitVec 32) : (k0_cond1 w = 1#1 ∧ ¬ k0_cond2 w = 1#1) ∨ (¬ k0_cond1 w = 1#1 ∧ k0_cond2 w = 1#1) := by
  by_cases h : w = 1#32
  · subst h; left; decide
  · right
    have e : Scalar.cmpi .eq w 1#32 = 0#1 := by
      show BitVec.ofBool (w == 1#32) = 0#1
      rw [beq_false_of_ne h]; rfl
    unfold k0_cond1 k0_cond2
    simp only [e]
    decide

/-- The first condition says the word is one. -/
theorem cond1_iff (w : BitVec 32) : k0_cond1 w = 1#1 ↔ w = 1#32 := by
  constructor
  · intro h
    by_contra hw
    have e : Scalar.cmpi .eq w 1#32 = 0#1 := by
      show BitVec.ofBool (w == 1#32) = 0#1
      rw [beq_false_of_ne hw]; rfl
    unfold k0_cond1 at h
    simp only [e] at h
    revert h; decide
  · rintro rfl; decide

/-- The output block as one view, at which its pieces are read back. -/
abbrev VO : View sig .tc .vmem S256x8x128 .f32 := (Memref.whole cc0_stg3_0 : Memref sig .tc .vmem S256x8x128 .f32).view

/-- What the output's buffer holds after the body at the point `t`: the pieces of the run whose case the tile's word is in. -/
def left (hO : Ok m) (c : Dev nD) (t : Fin (cfgM m hO).N) : Vec F S256x8x128 .f32 :=
  if h : k0_cond1 (word (F := F) c (grid0.coords t) (tbl m 1)) = 1#1 ∧ ¬ k0_cond2 (word (F := F) c (grid0.coords t) (tbl m 1)) = 1#1 then
    VO.read (Elt F) (VO.writes (Elt F) VO.junk (runUsed c (grid0.coords t) (buf0 m hO t) (whole0 m hO t) (buf1 m hO t) (whole1 m hO t) (buf2 m hO t) (whole2 m hO t) (buf3 m hO t) (whole3 m hO t) scr0 (Memref.isWhole_whole _) scr1 (Memref.isWhole_whole _)
      (blkAt m hO c 0 t) (blkAt m hO c 1 t) (blkAt m hO c 2 t) (tbl m 0) (tbl m 1) h.1 h.2).1)
  else
    VO.read (Elt F) (VO.writes (Elt F) VO.junk (runIdle c (grid0.coords t) (buf0 m hO t) (whole0 m hO t) (buf1 m hO t) (whole1 m hO t) (buf2 m hO t) (whole2 m hO t) (buf3 m hO t) (whole3 m hO t) scr0 (Memref.isWhole_whole _) scr1 (Memref.isWhole_whole _)
      (blkAt m hO c 0 t) (blkAt m hO c 1 t) (blkAt m hO c 2 t) (tbl m 0) (tbl m 1) ((one_or_other _).resolve_left h).1 ((one_or_other _).resolve_left h).2).1)

/-- The eight stores of a used tile cover its block. -/
theorem coversUsed (c : Dev nD) (i : grid0.Coords) (a3 : Memref sig .tc .vmem S256x8x128 .f32) (h3 : a3.IsWhole) (a4 : Memref sig .tc .vmem S1x1024x5632 .bf16) (h4 : a4.IsWhole) (a5 : Memref sig .tc .vmem S1x2816x1024 .bf16) (h5 : a5.IsWhole) (a6 : Memref sig .tc .vmem S256x8x128 .f32) (h6 : a6.IsWhole) (a7 : Memref sig .tc .vmem S256x1024 .bf16) (h7 : a7.IsWhole) (a8 : Memref sig .tc .vmem S256x2816 .bf16) (h8 : a8.IsWhole)
    (x0 : Vec F S256x8x128 .f32) (x1 : Vec F S1x1024x5632 .bf16) (x2 : Vec F S1x2816x1024 .bf16) (t0 : TabBuf (F := F) c tab0) (t1 : TabBuf (F := F) c tab1)
    (hc1 : k0_cond1 (word (F := F) c i t1) = 1#1) (hc2 : ¬ k0_cond2 (word (F := F) c i t1) = 1#1) (y : S256x8x128.Idx) :
    ∃ pc ∈ (runUsed c i a3 h3 a4 h4 a5 h5 a6 h6 a7 h7 a8 h8 x0 x1 x2 t0 t1 hc1 hc2).1, y ∈ pc.1.set :=
  View.cover_of_tiledL (runUsed c i a3 h3 a4 h4 a5 h5 a6 h6 a7 h7 a8 h8 x0 x1 x2 t0 t1 hc1 hc2).1 S256x1x128.size (by sl_kernel_rfl) y

/-- The store of an unused tile covers its block. -/
theorem coversIdle (c : Dev nD) (i : grid0.Coords) (a3 : Memref sig .tc .vmem S256x8x128 .f32) (h3 : a3.IsWhole) (a4 : Memref sig .tc .vmem S1x1024x5632 .bf16) (h4 : a4.IsWhole) (a5 : Memref sig .tc .vmem S1x2816x1024 .bf16) (h5 : a5.IsWhole) (a6 : Memref sig .tc .vmem S256x8x128 .f32) (h6 : a6.IsWhole) (a7 : Memref sig .tc .vmem S256x1024 .bf16) (h7 : a7.IsWhole) (a8 : Memref sig .tc .vmem S256x2816 .bf16) (h8 : a8.IsWhole)
    (x0 : Vec F S256x8x128 .f32) (x1 : Vec F S1x1024x5632 .bf16) (x2 : Vec F S1x2816x1024 .bf16) (t0 : TabBuf (F := F) c tab0) (t1 : TabBuf (F := F) c tab1)
    (hc1 : ¬ k0_cond1 (word (F := F) c i t1) = 1#1) (hc2 : k0_cond2 (word (F := F) c i t1) = 1#1) (y : S256x8x128.Idx) :
    ∃ pc ∈ (runIdle c i a3 h3 a4 h4 a5 h5 a6 h6 a7 h7 a8 h8 x0 x1 x2 t0 t1 hc1 hc2).1, y ∈ pc.1.set :=
  View.cover_of_tiledL (runIdle c i a3 h3 a4 h4 a5 h5 a6 h6 a7 h7 a8 h8 x0 x1 x2 t0 t1 hc1 hc2).1 S256x8x128.size (by sl_kernel_rfl) y

/-! ## The pipeline's data -/

/-- The arrays as found, each input's buffer at its block and the output's at `left`; the scratch at anything; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blkAt m hO c 0 t
    | ⟨1, _⟩ => blkAt m hO c 1 t
    | ⟨2, _⟩ => blkAt m hO c 2 t
    | ⟨3, _⟩ => left m hO c t
  Φ _ := iprop(Pipeline.ΦA spec0 c ∗ Pipeline.ΦT pre0 (tbl m) c)
  q _ := fullShare
  owed _ := 0

/-- The arrays are as found. -/
theorem A_eq (hO : Ok m) (c : Dev nD) (w : Fin (cfgM m hO).W) : (dats m hO 0 c).A w = V m c (Pipeline.arrRef spec0 w) := by
  dsimp only [dats]

/-- Input 0's buffer after the body, -/
theorem after0 (hO : Ok m) (c : Dev nD) (t : Fin (cfgM m hO).N) : (dats m hO 0 c).after 0 t = blkAt m hO c 0 t := by dsimp only [dats]; try rfl
/-- and before it. -/
theorem before0 (hO : Ok m) (c : Dev nD) (t : Fin (cfgM m hO).N) (d) : (dats m hO 0 c).before 0 t d = blkAt m hO c 0 t :=
  held0 m hO (dats m hO 0 c) (A_eq m hO c 0) (after0 m hO c) t d

/-- Input 1's buffer after the body, -/
theorem after1 (hO : Ok m) (c : Dev nD) (t : Fin (cfgM m hO).N) : (dats m hO 0 c).after 1 t = blkAt m hO c 1 t := by dsimp only [dats]; try rfl
/-- and before it. -/
theorem before1 (hO : Ok m) (c : Dev nD) (t : Fin (cfgM m hO).N) (d) : (dats m hO 0 c).before 1 t d = blkAt m hO c 1 t :=
  held1 m hO (dats m hO 0 c) (A_eq m hO c 1) (after1 m hO c) t d

/-- Input 2's buffer after the body, -/
theorem after2 (hO : Ok m) (c : Dev nD) (t : Fin (cfgM m hO).N) : (dats m hO 0 c).after 2 t = blkAt m hO c 2 t := by dsimp only [dats]; try rfl
/-- and before it. -/
theorem before2 (hO : Ok m) (c : Dev nD) (t : Fin (cfgM m hO).N) (d) : (dats m hO 0 c).before 2 t d = blkAt m hO c 2 t :=
  held2 m hO (dats m hO 0 c) (A_eq m hO c 2) (after2 m hO c) t d

/-- The output's buffer after the body. -/
theorem after3 (hO : Ok m) (c : Dev nD) (t : Fin (cfgM m hO).N) : (dats m hO 0 c).after 3 t = left m hO c t := by dsimp only [dats]; try rfl

/-- The body's call at the point `t`. -/
abbrev bodyAt (a : (pcfg0 (F := F)).Adm) (t : Fin (cfg0 a).N) : Prog (TpuEff nD τ sig (Elt F) Λ₀ .tc) PUnit :=
  cc0_moe_experts (grid0.coords t) tab0 (Memref.isWhole_whole _) tab1 (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) scr0 (Memref.isWhole_whole _) scr1 (Memref.isWhole_whole _)

/-- What the body starts from at the point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (buf0 m hO t) fullShare ((dats m hO 0 c).before 0 t d))
    ∗ (∃ d, owns (c : Thread nD τ) (buf1 m hO t) fullShare ((dats m hO 0 c).before 1 t d))
    ∗ (∃ d, owns (c : Thread nD τ) (buf2 m hO t) fullShare ((dats m hO 0 c).before 2 t d))
    ∗ (∃ d, owns (c : Thread nD τ) (buf3 m hO t) fullShare ((dats m hO 0 c).before 3 t d)))

/-- and what it ends in. -/
def bodyPost (hO : Ok m) (c : Dev nD) (t : Fin (cfgM m hO).N) : sProp 𝕄 :=
  iprop((dats m hO 0 c).Φ t.succ ∗ (dats m hO 0 c).owesAt () t.succ
    ∗ owns (c : Thread nD τ) (buf0 m hO t) fullShare ((dats m hO 0 c).after 0 t)
    ∗ owns (c : Thread nD τ) (buf1 m hO t) fullShare ((dats m hO 0 c).after 1 t)
    ∗ owns (c : Thread nD τ) (buf2 m hO t) fullShare ((dats m hO 0 c).after 2 t)
    ∗ owns (c : Thread nD τ) (buf3 m hO t) fullShare ((dats m hO 0 c).after 3 t))

set_option maxHeartbeats 1000000 in
/-- The body at any point: the run of the tile's case. -/
theorem sound (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2]
  rw [show (dats m hO 0 c).Φ t.succ = (dats m hO 0 c).Φ t.castSucc from rfl,
    show (dats m hO 0 c).owesAt () t.succ = (dats m hO 0 c).owesAt () t.castSucc from rfl, after0, after1, after2, after3]
  rw [show (dats m hO 0 c).Φ t.castSucc = iprop(Pipeline.ΦA spec0 c ∗ Pipeline.ΦT pre0 (tbl m) c) from rfl, tables_eq, scratch_eq]
  by_cases h : k0_cond1 (word (F := F) c (grid0.coords t) (tbl m 1)) = 1#1 ∧ ¬ k0_cond2 (word (F := F) c (grid0.coords t) (tbl m 1)) = 1#1
  · rw [show left m hO c t = _ from dif_pos h]
    iintro ⟨⟨⟨⟨HS0, HS1⟩, Hg⟩, ⟨HT0, HT1⟩⟩, Ho, ⟨%d0, H0⟩, ⟨%d1, H1⟩, ⟨%d2, H2⟩, ⟨%d3, H3⟩⟩
    iapply ((runUsed c (grid0.coords t) _ (whole0 m hO t) _ (whole1 m hO t) _ (whole2 m hO t) _ (whole3 m hO t) _ (Memref.isWhole_whole _) _ (Memref.isWhole_whole _) (blkAt m hO c 0 t) (blkAt m hO c 1 t) (blkAt m hO c 2 t) (tbl m 0) (tbl m 1) h.1 h.2).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, ⟨%e3, H3⟩, HS0, HS1, HT0, HT1⟩
    isplitl [HS0 HS1 Hg HT0 HT1]
    · isplitl [HS0 HS1 Hg]
      · isplitl [HS0 HS1]
        · isplitl [HS0]
          · iexact HS0
          iexact HS1
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coversUsed c _ _ _ _ _ _ _ _ _ _ _ _ _ _ _ _ _ _ _ _)
  · rw [show left m hO c t = _ from dif_neg h]
    iintro ⟨⟨⟨⟨HS0, HS1⟩, Hg⟩, ⟨HT0, HT1⟩⟩, Ho, ⟨%d0, H0⟩, ⟨%d1, H1⟩, ⟨%d2, H2⟩, ⟨%d3, H3⟩⟩
    iapply ((runIdle c (grid0.coords t) _ (whole0 m hO t) _ (whole1 m hO t) _ (whole2 m hO t) _ (whole3 m hO t) _ (Memref.isWhole_whole _) _ (Memref.isWhole_whole _) (blkAt m hO c 0 t) (blkAt m hO c 1 t) (blkAt m hO c 2 t) (tbl m 0) (tbl m 1) ((one_or_other _).resolve_left h).1 ((one_or_other _).resolve_left h).2).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, ⟨%e3, H3⟩, HS0, HS1, HT0, HT1⟩
    isplitl [HS0 HS1 Hg HT0 HT1]
    · isplitl [HS0 HS1 Hg]
      · isplitl [HS0 HS1]
        · isplitl [HS0]
          · iexact HS0
          iexact HS1
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coversIdle c _ _ _ _ _ _ _ _ _ _ _ _ _ _ _ _ _ _ _ _)

/-- The body the pipeline calls at the point `t`. -/
theorem body_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The output is stored at every point, whatever the tables hold. -/
theorem stored (pf : pre0.Contents (Elt F)) (i : grid0.Coords) : idle0 pf 3 i = false := by
  show (!(k0_cond1 (pf.atD 1 (k0_off1 i)) == 1#1) && !(k0_cond2 (pf.atD 1 (k0_off1 i)) == 1#1)) = false
  rcases one_or_other (pf.atD 1 (k0_off1 i)) with h | h
  · rw [h.1]; rfl
  · rw [h.2]; exact Bool.and_false _

/-- The body keeps the pipeline's data at every point. -/
theorem obligation (hO : Ok m) (c : Dev nD) : BodyObligation (dats (F := F) m hO 0 c) (defs₀ (F := F)) Variants.none () Set.univ := fun t => by
  rw [bigSep_W0, bigSep_W0, body_row m hO]
  refine triple_restated (sound m hO c t) rfl .rfl fun _ => ?_
  dsimp only
  rw [show idle0 (tbl m) 3 ((pcfg0.gridAt (tbl m)).coords t) = false from stored (tbl m) _]
  exact .rfl

/-! ## The run -/

set_option backward.isDefEq.respectTransparency.types false in
/-- Every run ends, with each array at what the pipeline's data says and every counter at zero. -/
theorem runs (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := entry m Variants.none) (hA := A_eq m hO) (hpf := V_tbl m) (hΦ := fun _ _ => rfl)

/-- Argument 2 is only read. -/
theorem unmoved0 (hO : Ok m) (c : Dev nD) : (dats m hO 0 c).arrAt 0 (cfgM m hO).N = m ((c.tc : Thread nD τ).loc main_arg2) := by
  rw [(dats m hO 0 c).arrAt_in 0 rfl, A_eq]
  rfl

/-- Argument 3 is only read. -/
theorem unmoved1 (hO : Ok m) (c : Dev nD) : (dats m hO 0 c).arrAt 1 (cfgM m hO).N = m ((c.tc : Thread nD τ).loc main_arg3) := by
  rw [(dats m hO 0 c).arrAt_in 1 rfl, A_eq]
  rfl

/-- Argument 4 is only read. -/
theorem unmoved2 (hO : Ok m) (c : Dev nD) : (dats m hO 0 c).arrAt 2 (cfgM m hO).N = m ((c.tc : Thread nD τ).loc main_arg4) := by
  rw [(dats m hO 0 c).arrAt_in 2 rfl, A_eq]
  rfl

/-- Every run ends, leaves the arguments and every counter at zero, and leaves in the result what the data says. -/
theorem result (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c).1 3,
    (h.1 c).2 main_arg0 (by decide : main_arg0 ∈ Pipeline.restRefs sig spec0),
    (h.1 c).2 main_arg1 (by decide : main_arg1 ∈ Pipeline.restRefs sig spec0),
    ((h.1 c).1 0).trans (unmoved0 m hO c), ((h.1 c).1 1).trans (unmoved1 m hO c), ((h.1 c).1 2).trans (unmoved2 m hO c)⟩, h.2⟩) (runs m ρ hO)

end Cert.ExpertsIdeal.Hand

end
-- ==== Proof.ExpertsIdeal.Table.lean ====
/- The tables the experts' call is launched on are admissible where every tile names one of the eight experts. -/
module

public import proofs.«01_k».proof.Proof.ExpertsIdeal.Run
public import proofs.«01_k».proof.Proof.Experts.Range
public import Idealize.ShloMosaic.Lib.PairWhole

@[expose] public section

noncomputable section

namespace Cert.ExpertsIdeal.Hand

open Idealize.ShloMosaic Idealize.ShloMosaic.TcCoe
open Cert.ExpertsIdeal Cert.ExpertsIdeal.Gen

variable {F : FTy → Type} [FloatOps F]
variable (m : (ℓ : Loc nD τ sig) → Buf (Elt F) ℓ)

/-- Every tile names one of the eight experts. -/
abbrev InRange : Prop := ∀ i : S136.Idx, BitVec.toNat (tbl m 0 i) < 8

/-- Then every block the two weight windows name lies inside its array, in whole words. -/
theorem ok_of_range (h : InRange m) : Ok m := by
  have hw (i : grid0.Coords) : BitVec.toNat ((tbl m).at 0 (Rect.unit (s := S136) (k0_off1 i) S1.size (k0_off1_inb i)) numel1_S1) < 8 := h _
  refine ⟨fun i => ⟨fun a => ?_, .inr (Rect.WholeRows.wholeWords ⟨by decide, ?_, ?_, ?_⟩ _)⟩, fun i => ⟨fun a => ?_, .inr (Rect.WholeRows.wholeWords ⟨by decide, ?_, ?_, ?_⟩ _)⟩⟩
  · have := hw i
    fin_cases a
    · show (BitVec.toNat ((tbl m).at 0 (Rect.unit (s := S136) (k0_off1 i) S1.size (k0_off1_inb i)) numel1_S1) + 1) * 1 ≤ 8
      omega
    · show (0 + 1) * 1024 ≤ 1024; decide
    · show (0 + 1) * 5632 ≤ 5632; decide
  · show 0 * 1024 = 0; decide
  · rfl
  · show 1024 = 1024; rfl
  · have := hw i
    fin_cases a
    · show (BitVec.toNat ((tbl m).at 0 (Rect.unit (s := S136) (k0_off1 i) S1.size (k0_off1_inb i)) numel1_S1) + 1) * 1 ≤ 8
      omega
    · show (0 + 1) * 2816 ≤ 2816; decide
    · show (0 + 1) * 1024 ≤ 1024; decide
  · show 0 * 2816 = 0; decide
  · rfl
  · show 2816 = 2816; rfl

end Cert.ExpertsIdeal.Hand

end
-- ==== Proof.ExpertsIdeal.Value.lean ====
/- What the experts' call leaves in its result: the formula of `Spec`. -/
module

public import proofs.«01_k».proof.Proof.ExpertsIdeal.Table
public import proofs.«01_k».proof.Proof.ExpertsIdeal.Spec
public import Idealize.ShloMosaic.Lib.Pipeline.ReadBack
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.ExpertsIdeal.Value
open Cert.ExpertsIdeal Cert.ExpertsIdeal.Gen Cert.ExpertsIdeal.Hand

/-- At a used tile the body leaves each row's expert. -/
theorem used (c : Dev nD) (i : grid0.Coords) (a3 : Memref sig .tc .vmem S256x8x128 .f32) (h3 : a3.IsWhole) (a4 : Memref sig .tc .vmem S1x1024x5632 .bf16) (h4 : a4.IsWhole) (a5 : Memref sig .tc .vmem S1x2816x1024 .bf16) (h5 : a5.IsWhole) (a6 : Memref sig .tc .vmem S256x8x128 .f32) (h6 : a6.IsWhole)
    (x0 : FVec Ideal S256x8x128 .f32) (x1 : FVec Ideal S1x1024x5632 .bf16) (x2 : FVec Ideal S1x2816x1024 .bf16) (t0 : TabBuf (F := Ideal) c tab0) (t1 : TabBuf (F := Ideal) c tab1)
    (hc1 : k0_cond1 (word c i t1) = 1#1) (hc2 : ¬ k0_cond2 (word c i t1) = 1#1) (r : Fin 256) (k : Fin 8) (l : Fin 128) :
    VO.read (Elt Ideal) (VO.writes (Elt Ideal) VO.junk (runUsed (F := Ideal) c i a3 h3 a4 h4 a5 h5 a6 h6 scr0 (Memref.isWhole_whole _) scr1 (Memref.isWhole_whole _) x0 x1 x2 t0 t1 hc1 hc2).1) (ix3 r k l)
      = ∑ f : Fin 2816, FfnSpec.gated (fun d => x0 (ix3 r ⟨d / 128, by omega⟩ ⟨d % 128, by omega⟩)) (fun d f => x1 (ix3 0 d f)) f * x2 (ix3 0 f ⟨k * 128 + l, by omega⟩) := by
  unfold runUsed
  frame_open
  generalize hY : View.readCov (Val := Elt Ideal) scr0.view _ _ = Y
  generalize hH : View.readCov (Val := Elt Ideal) scr1.view _ _ = H
  have hY0 : ∀ (r : Fin 256) (d : Fin 1024), Y (ix2 r d) = x0 (ix3 r ⟨d / 128, by omega⟩ ⟨d % 128, by omega⟩) := fun r d => by
    rw [← hY]
    clear hH hY
    frame_out
    rw [View.readCov_eq_canon']
    have e : ∀ j : S256x1024.Idx, LoadRect.idx (Rect.unit ![0, 0] ![256, 1024] inb_S256x1024_S256x1024_0_0).toLoadRect j = j := fun j => by
      show (Rect.unit (s := S256x1024) ![0, 0] ![256, 1024] inb_S256x1024_S256x1024_0_0).emb j = j
      blk_ext
    refine (congrArg (View.canon _) (e _)).trans ?_
    canon_tiles y h
    all_goals
      open_payloads
      idx_vars y
      pointwise []
      obtain rfl : r = y0 := Fin.ext h0
      refine congrArg₂ (fun a b => x0 (ix3 r a b)) (Fin.ext ?_) (Fin.ext ?_)
      · show (_ : ℕ) = (d : ℕ) / 128
        try simp only [Fin.isValue, Fin.val_ofNat, Fin.val_zero, Fin.val_one, Fin.coe_ofNat_eq_mod]
        omega
      · show (_ : ℕ) = (d : ℕ) % 128
        try simp only [Fin.isValue, Fin.val_ofNat, Fin.val_zero, Fin.val_one, Fin.coe_ofNat_eq_mod]
        omega
  have hH0 : ∀ (r : Fin 256) (f : Fin 2816), H (ix2 r f) = FfnSpec.gated (fun d => Y (ix2 r d)) (fun d f => x1 (ix3 0 d f)) f := fun r f => by
    rw [← hH]
    clear hH hY
    frame_out
    rw [View.readCov_eq_canon']
    have e : ∀ j : S256x2816.Idx, LoadRect.idx (Rect.unit ![0, 0] ![256, 2816] inb_S256x2816_S256x2816_0_0).toLoadRect j = j := fun j => by
      show (Rect.unit (s := S256x2816) ![0, 0] ![256, 2816] inb_S256x2816_S256x2816_0_0).emb j = j
      blk_ext
    refine (congrArg (View.canon _) (e _)).trans ?_
    canon_tiles y h
    all_goals
      open_payloads
      idx_vars y
      pointwise [FfnSpec.gated, FfnSpec.col]
      obtain rfl : r = y0 := Fin.ext h0
      simp only [h1, ← Nat.add_assoc, Nat.reduceAdd, Nat.zero_add, Nat.add_zero]
  clear hH hY
  frame_out
  canon_tiles y h
  all_goals
    idx_vars y
    open_payloads
    pointwise []
    obtain rfl : r = y0 := Fin.ext h0
    refine Finset.sum_congr rfl fun f _ => ?_
    rw [hH0]
    simp only [hY0]
    refine Ideal.mul_congr rfl (congrArg (fun q => x2 (ix3 0 f q)) (Fin.ext ?_))
    show (_ : ℕ) = (k : ℕ) * 128 + (l : ℕ)
    dsimp only
    omega

/-- At an unused tile the body leaves zeros. -/
theorem unused (c : Dev nD) (i : grid0.Coords) (a3 : Memref sig .tc .vmem S256x8x128 .f32) (h3 : a3.IsWhole) (a4 : Memref sig .tc .vmem S1x1024x5632 .bf16) (h4 : a4.IsWhole) (a5 : Memref sig .tc .vmem S1x2816x1024 .bf16) (h5 : a5.IsWhole) (a6 : Memref sig .tc .vmem S256x8x128 .f32) (h6 : a6.IsWhole)
    (x0 : FVec Ideal S256x8x128 .f32) (x1 : FVec Ideal S1x1024x5632 .bf16) (x2 : FVec Ideal S1x2816x1024 .bf16) (t0 : TabBuf (F := Ideal) c tab0) (t1 : TabBuf (F := Ideal) c tab1)
    (hc1 : ¬ k0_cond1 (word c i t1) = 1#1) (hc2 : k0_cond2 (word c i t1) = 1#1) (r : Fin 256) (k : Fin 8) (l : Fin 128) :
    VO.read (Elt Ideal) (VO.writes (Elt Ideal) VO.junk (runIdle (F := Ideal) c i a3 h3 a4 h4 a5 h5 a6 h6 scr0 (Memref.isWhole_whole _) scr1 (Memref.isWhole_whole _) x0 x1 x2 t0 t1 hc1 hc2).1) (ix3 r k l) = 0 := by
  unfold runIdle
  frame_open
  frame_out
  pointwise [k0_pay3]

/-- The word a grid point reads of a table is the table's entry at the point. -/
theorem off : ∀ t : Fin grid0.N, k0_off1 (grid0.coords t) 0 = t.val := by decide +kernel

theorem N_136 : grid0.N = 136 := by decide +kernel

variable (m : (ℓ : Loc nD τ sig) → Buf (Elt Ideal) ℓ)

/-- The tile a grid point works on. -/
abbrev tileOf (t : Fin grid0.N) : Fin 136 := t.cast N_136

/-- The entry of a table that a grid point reads. -/
theorem first (t : Fin grid0.N) : ((Rect.unit (s := S136) (k0_off1 (grid0.coords t)) S1.size (k0_off1_inb (grid0.coords t))).emb (Shape.Idx.first (numel1_S1.symm ▸ Nat.one_pos)) : S136.Idx) = ix1 (tileOf t) := by
  refine funext fun (a : Fin 1) => Fin.ext ?_
  obtain rfl : a = 0 := Subsingleton.elim _ _
  show k0_off1 (grid0.coords t) 0 + 1 * 0 = t.val
  rw [off t]; rfl

theorem word_eq (c : Dev nD) (t : Fin grid0.N) : word (F := Ideal) c (grid0.coords t) (tbl m 1) = (tbl m 1 : IVec S136 32) (ix1 (tileOf t)) := by
  have e : ((Rect.unit (s := S136) (k0_off1 (grid0.coords t)) S1.size (k0_off1_inb (grid0.coords t))).emb (Shape.Idx.first (numel1_S1.symm ▸ Nat.one_pos)) : S136.Idx) = ix1 (tileOf t) := first t
  exact congrArg (tbl m 1 : IVec S136 32) e

/-- The expert a grid point's weight blocks are of. -/
theorem expert_eq (t : Fin grid0.N) : (tbl m).at 0 (Rect.unit (s := S136) (k0_off1 (grid0.coords t)) S1.size (k0_off1_inb (grid0.coords t))) numel1_S1 = (tbl m 0 : IVec S136 32) (ix1 (tileOf t)) := by
  exact congrArg (tbl m 0 : IVec S136 32) (first t)

/-- The blocks of the windows that read no table. -/
theorem rowIdx : ∀ t : Fin grid0.N, cc0_transform_0 (grid0.coords t) = ![t.val, 0, 0] ∧ cc0_transform_3 (grid0.coords t) = ![t.val, 0, 0] := by decide +kernel

theorem idx0 (hO : Ok m) (t : Fin (cfgM m hO).N) : ((cfgM m hO).win 0).index t = ![t.val, 0, 0] := (rowIdx t).1
theorem idx3 (hO : Ok m) (t : Fin (cfgM m hO).N) : ((cfgM m hO).win 3).index t = ![t.val, 0, 0] := (rowIdx t).2
theorem idx1 (hO : Ok m) (t : Fin (cfgM m hO).N) : ((cfgM m hO).win 1).index t = ![BitVec.toNat ((tbl m 0 : IVec S136 32) (ix1 (tileOf t))), 0, 0] := by
  rw [← expert_eq m t]; rfl
theorem idx2 (hO : Ok m) (t : Fin (cfgM m hO).N) : ((cfgM m hO).win 2).index t = ![BitVec.toNat ((tbl m 0 : IVec S136 32) (ix1 (tileOf t))), 0, 0] := by
  rw [← expert_eq m t]; rfl

end Cert.ExpertsIdeal.Value

end
-- ==== Proof.ExpertsIdeal.Final.lean ====
/- The result array of the experts' call after the run: the formula of `Spec`. -/
module

public import proofs.«01_k».proof.Proof.ExpertsIdeal.Value

@[expose] public section

set_option maxRecDepth 16384
noncomputable section
open Idealize.ShloMosaic Idealize.ShloMosaic.TcCoe Idealize.ShloMosaic.Tactic Idealize.SL.Sem
open Idealize.ShloMosaic.Pipeline (Dat)
namespace Cert.ExpertsIdeal.Value
open Cert.ExpertsIdeal Cert.ExpertsIdeal.Gen Cert.ExpertsIdeal.Hand

variable (m : (ℓ : Loc nD τ sig) → Buf (Elt Ideal) ℓ)

/-- The word that says whether a grid point's tile is used, -/
abbrev flag (t : Fin grid0.N) : BitVec 32 := (tbl m 1 : IVec S136 32) (ix1 (tileOf t))
/-- the word that names its expert, -/
abbrev chosen (t : Fin grid0.N) : BitVec 32 := (tbl m 0 : IVec S136 32) (ix1 (tileOf t))
/-- the rows staged for it, -/
abbrev rows (hO : Ok m) (c : Dev nD) (t : Fin (cfgM m hO).N) : FVec Ideal S256x8x128 .f32 := blkAt m hO c 0 t
/-- and its expert's two weight matrices. -/
abbrev gateUp (hO : Ok m) (c : Dev nD) (t : Fin (cfgM m hO).N) : FVec Ideal S1x1024x5632 .bf16 := blkAt m hO c 1 t
abbrev down (hO : Ok m) (c : Dev nD) (t : Fin (cfgM m hO).N) : FVec Ideal S1x2816x1024 .bf16 := blkAt m hO c 2 t

/-- What a grid point leaves in the output's block, over the blocks staged at the point. -/
theorem point (hO : Ok m) (c : Dev nD) (t : Fin (cfgM m hO).N) (r : Fin 256) (k : Fin 8) (l : Fin 128) :
    (left m hO c t : FVec Ideal S256x8x128 .f32) (ix3 r k l) =
      if flag m t = 1#32 then
        ∑ f : Fin 2816, FfnSpec.gated (fun d => rows m hO c t (ix3 r ⟨d / 128, by omega⟩ ⟨d % 128, by omega⟩))
          (fun d f => gateUp m hO c t (ix3 0 d f)) f * down m hO c t (ix3 0 f ⟨k * 128 + l, by omega⟩)
      else 0 := by
  unfold left
  by_cases h : k0_cond1 (word (F := Ideal) c (grid0.coords t) (tbl m 1)) = 1#1 ∧ ¬ k0_cond2 (word (F := Ideal) c (grid0.coords t) (tbl m 1)) = 1#1
  · have hw := (cond1_iff _).1 h.1
    rw [word_eq] at hw
    rw [dif_pos h, if_pos hw]
    exact used c (grid0.coords t) _ _ _ _ _ _ _ _ _ _ _ _ _ _ _ r k l
  · have hw : ¬ flag m t = 1#32 := fun e => by
      have hc := (cond1_iff (word (F := Ideal) c (grid0.coords t) (tbl m 1))).2 ((word_eq m c t).trans e)
      rcases one_or_other (word (F := Ideal) c (grid0.coords t) (tbl m 1)) with h' | h'
      · exact h h'
      · exact h'.1 hc
    rw [dif_neg h, if_neg hw]
    exact unused c (grid0.coords t) _ _ _ _ _ _ _ _ _ _ _ _ _ _ _ r k l

/-- The blocks written back cover the output array. -/
theorem covers (hO : Ok m) : ((cfgM m hO).win 3).Covers := by
  refine of_decide_eq_true ?_
  sl_kernel_rfl

/-- After the run the output array is the formula of `Spec`. -/
theorem final (hr : InRange m) (c : Dev nD) : (dats m (ok_of_range m hr) 0 c).arrAt 3 (cfgM m (ok_of_range m hr)).N
    = ExpertsSpec.OUT (m ((c : Thread nD τ).loc main_arg0)) (m ((c : Thread nD τ).loc main_arg1)) (fun i => (congrArg (fun v : IVec S136 32 => BitVec.toNat (v i)) (V_tbl m c 0)).trans_lt (hr i)) (m ((c : Thread nD τ).loc main_arg2)) (m ((c : Thread nD τ).loc main_arg3)) (m ((c : Thread nD τ).loc main_arg4)) := by
  obtain rfl : c = 0 := Subsingleton.elim _ _
  generalize ok_of_range m hr = hO
  refine (dats m hO 0 0).arrAt_eq_of_covers 3 _ (covers m hO) (fun t _ y => ?_) (Memref.isWhole_whole _)
  blk_simp
  rw [after3]
  have ht : t.val < 136 := lt_of_lt_of_eq t.isLt N_136
  have i0 := idx0 m hO t
  have i1 := idx1 m hO t
  have i2 := idx2 m hO t
  have i3 := idx3 m hO t
  suffices H : ∀ y : S256x8x128.Idx, (left m hO 0 t : FVec Ideal S256x8x128 .f32) y = ExpertsSpec.OUT (tbl m 0) (tbl m 1) hr (m ((0 : Dev nD).tc.loc main_arg2)) (m ((0 : Dev nD).tc.loc main_arg3)) (m ((0 : Dev nD).tc.loc main_arg4)) ((((cfgM m hO).win 3).blk t).view.emb y) from H y
  intro y
  idx_vars y
  have he : ((((cfgM m hO).win 3).blk t).view.emb (ix3 y0 y1 y2) : S34816x8x128.Idx) = ix3 ⟨t.val * 256 + y0, by omega⟩ y1 y2 := by blk_ext [i3]
  have b0 : ∀ k l, rows m hO 0 t (ix3 y0 k l) = (m ((0 : Dev nD).tc.loc main_arg2) : FVec Ideal S34816x8x128 .f32) (ix3 ⟨t.val * 256 + y0, by omega⟩ k l) := fun k l => by blk_point [blkAt, V, i0]
  have b1 : ∀ k f, gateUp m hO 0 t (ix3 0 k f) = (m ((0 : Dev nD).tc.loc main_arg3) : FVec Ideal S8x1024x5632 .bf16) (ix3 ⟨BitVec.toNat (chosen m t), hr _⟩ k f) := fun k f => by
    blk_point [blkAt, V, i1]
    rfl
  have b2 : ∀ f d, down m hO 0 t (ix3 0 f d) = (m ((0 : Dev nD).tc.loc main_arg4) : FVec Ideal S8x2816x1024 .bf16) (ix3 ⟨BitVec.toNat (chosen m t), hr _⟩ f d) := fun k f => by
    blk_point [blkAt, V, i2]
    rfl
  refine (point m hO 0 t y0 y1 y2).trans ?_
  refine Eq.trans ?_ (congrArg _ he.symm)
  have e : ExpertsSpec.tile ⟨t.val * 256 + y0, by omega⟩ = tileOf t := Fin.ext (by show (t.val * 256 + (y0 : ℕ)) / 256 = t.val; omega)
  unfold ExpertsSpec.OUT ExpertsSpec.expert ExpertsSpec.lanes
  simp only [ix3_0, ix3_1, ix3_2, e, b0, b1, b2]
  have e2 : (tbl m 1 : IVec S136 32) (ix1 (ExpertsSpec.tile ⟨t.val * 256 + y0, by omega⟩)) = flag m t := congrArg (fun j => (tbl m 1 : IVec S136 32) (ix1 j)) e
  by_cases hf : flag m t = 1#32
  · exact (if_pos hf).trans (if_pos (e2.trans hf)).symm
  · exact (if_neg hf).trans (if_neg (fun h => hf (e2.symm.trans h))).symm

end Cert.ExpertsIdeal.Value

end
-- ==== Proof.QkvIdeal.Value.lean ====
/- The projection to queries, keys and values and its reference, each read at an index and compared with one formula. -/
module

public import proofs.«01_k».proof.Proof.Gen.QkvIdeal.Frame
public import proofs.«01_k».proof.Proof.FfnIdeal.Spec
public import proofs.«01_k».proof.Proof.Gen.QkvRefIdeal.Read
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.QkvIdeal.Value
open Cert.FfnSpec (modRow modRow_lt)
section
open Cert.QkvIdeal Cert.QkvIdeal.Gen

/-- A normed row against one column of the weight matrix. -/
def proj (y g shift scale : Fin 1024 → EReal) (w : Fin 1024 → Fin 3072 → EReal) (f : Fin 3072) : EReal :=
  ∑ k, FfnSpec.normed y g shift scale k * w k f

variable (m : (ℓ : Loc nD τ sig) → Buf (Elt Ideal) ℓ)

/-- What a grid point leaves in the output's block: the projection of the staged rows, stored in six tiles of 512 lanes. -/
theorem point (x0 : FVec Ideal S512x1024 .f32) (x1 : FVec Ideal S1x1024 .f32) (x2 : FVec Ideal S1x6x1024 .f32) (x3 : FVec Ideal S1024x3072 .bf16) (r : Fin 512) (f : Fin 3072) :
   out0_4 (F := Ideal) x0 x1 x2 x3 (ix2 r f) = proj (fun l => x0 (ix2 r l)) (fun l => x1 (ix2 0 l)) (fun l => x2 (ix3 0 0 l)) (fun l => x2 (ix3 0 1 l)) (fun k f => x3 (ix2 k f)) f := by
  unfold_out out0_4
  canon_tiles x h
  all_goals
    open_payloads
    idx_vars x
    pointwise [proj, FfnSpec.normed]
    obtain rfl : r = x0 := Fin.ext h0
    exact Finset.sum_congr rfl fun k _ => congrArg _ (congrArg (fun j => x3 (ix2 k j)) (Fin.ext (by dsimp only; omega)))

/-- The projection of all rows as one function of the arguments. -/
abbrev OUT (x0 : FVec Ideal S16384x1024 .f32) (x1 : FVec Ideal S1024 .f32) (x2 : FVec Ideal S8x6x1024 .f32) (x3 : FVec Ideal S1024x3072 .f32) : FVec Ideal S16384x3072 .f32 := fun i =>
  proj (fun l => x0 (ix2 (i 0) l)) (fun l => x1 (ix1 l)) (fun l => x2 (ix3 ⟨modRow (i 0), modRow_lt _⟩ 0 l)) (fun l => x2 (ix3 ⟨modRow (i 0), modRow_lt _⟩ 1 l))
    (fun k f => x3 (ix2 k f)) (i 1)

/-- The block each window stages at a grid point. -/
theorem idx : ∀ t : Fin cfg0.N, win0_0.index t = ![t.val, 0] ∧ win0_1.index t = ![0, 0] ∧ win0_2.index t = ![modRow (t.val * 512), 0, 0]
   ∧ win0_3.index t = ![0, 0] ∧ win0_4.index t = ![t.val, 0] := (by decide +kernel : ∀ t : Fin grid0.N, _)

/-- The norm's weights as the launch finds them. -/
theorem gain (c : Dev nD) : V m c main_v1 = shapeCast S1x1024 (m ((c : Thread nD τ).loc main_arg1)) shapeCasts_S1024_S1x1024 := by
  show StableHlo.after hostOps0 (fun b => m (c, b)) (Proc.devRef .tc main_v1) = _
  unfold hostOps0
  after_results
  rfl

/-- The keys returned are a slice of the launch's array, -/
theorem tailK (c : Dev nD) : Pipeline.afterTail₀ cfgs (dats m) 0 (V0 m) [hostOps1] c main_v4 =
    shapeCast S32x1x256x8x128 (extractStridedSlice S8192x1024 ![0, 1024] ((dats m 0 c).arrAt 4 (cfgs 0).N) slices_S16384x3072_S8192x1024_0_1024) shapeCasts_S8192x1024_S32x1x256x8x128 := by
  have e : Pipeline.withArrays (cfgs 0).spec c (V0 m c) (fun w => (dats m 0 c).arrAt w (cfgs 0).N) (Proc.devRef .tc main_v2) = (dats m 0 c).arrAt 4 (cfgs 0).N :=
    Pipeline.withArrays_arr spec0 launch0.win.arr_inj c _ _ 4
  rw [← e]
  unfold Pipeline.afterTail₀
  generalize Pipeline.withArrays (cfgs 0).spec c (V0 m c) (fun w => (dats m 0 c).arrAt w (cfgs 0).N) = W
  show StableHlo.after hostOps1 W (Proc.devRef .tc main_v4) = _
  unfold hostOps1
  after_results
  rfl

/-- and so are the values. -/
theorem tailV (c : Dev nD) : Pipeline.afterTail₀ cfgs (dats m) 0 (V0 m) [hostOps1] c main_v6 =
    shapeCast S32x1x256x8x128 (extractStridedSlice S8192x1024 ![0, 2048] ((dats m 0 c).arrAt 4 (cfgs 0).N) slices_S16384x3072_S8192x1024_0_2048) shapeCasts_S8192x1024_S32x1x256x8x128 := by
  have e : Pipeline.withArrays (cfgs 0).spec c (V0 m c) (fun w => (dats m 0 c).arrAt w (cfgs 0).N) (Proc.devRef .tc main_v2) = (dats m 0 c).arrAt 4 (cfgs 0).N :=
    Pipeline.withArrays_arr spec0 launch0.win.arr_inj c _ _ 4
  rw [← e]
  unfold Pipeline.afterTail₀
  generalize Pipeline.withArrays (cfgs 0).spec c (V0 m c) (fun w => (dats m 0 c).arrAt w (cfgs 0).N) = W
  show StableHlo.after hostOps1 W (Proc.devRef .tc main_v6) = _
  unfold hostOps1
  after_results
  rfl

/-- After the run the output array is the projection. -/
theorem final (c : Dev nD) : (dats m 0 c).arrAt 4 (cfgs 0).N = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]
  have ht : t.val < 32 := lt_of_lt_of_eq t.isLt N_0
  obtain ⟨i0, i1, i2, i3, i4⟩ := idx t
  idx_vars y
  have he : ((View.whole main_v2).slice (win0_4.rect t)).emb (ix2 y0 y1) = ix2 ⟨t.val * 512 + y0, by omega⟩ y1 := by blk_ext [i4]
  refine (point _ _ _ _ y0 y1).trans ?_
  rw [he]
  have hm : modRow (t.val * 512 + y0) = modRow (t.val * 512) := by
    unfold modRow; split <;> split <;> omega
  have b0 : ∀ l, (iblk m c 0 t : FVec Ideal S512x1024 .f32) (ix2 y0 l) = m ((c : Thread nD τ).loc main_arg0) (ix2 ⟨t.val * 512 + y0, by omega⟩ l) := fun l => by blk_point [iblk, V, V0, i0]
  have b1 : ∀ l, (iblk m c 1 t : FVec Ideal S1x1024 .f32) (ix2 0 l) = m ((c : Thread nD τ).loc main_arg1) (ix1 l) := fun l => by
    have he1 : (win0_1.blk t).view.emb (ix2 0 l) = (ix2 0 l : S1x1024.Idx) := by blk_ext [i1]
    show V m c main_v1 ((win0_1.blk t).view.emb (ix2 0 l)) = _
    rw [he1, gain]
    pointwise []
  have b2 : ∀ (s : Fin 6) l, (iblk m c 2 t : FVec Ideal S1x6x1024 .f32) (ix3 0 s l) = m ((c : Thread nD τ).loc main_arg2) (ix3 ⟨modRow (t.val * 512), modRow_lt ⟨t.val * 512, by omega⟩⟩ s l) := fun s l => by blk_point [iblk, V, V0, i2]
  have b3 : ∀ k f, (iblk m c 3 t : FVec Ideal S1024x3072 .bf16) (ix2 k f) = m ((c : Thread nD τ).loc main_arg3) (ix2 k f) := fun k f => by blk_point [iblk, V, V0, i3]
  simp only [OUT, ix2_0, ix2_1, hm, b0, b1, b2, b3]
end
section
open Cert.QkvRefIdeal Cert.QkvRefIdeal.Gen Cert.QkvRefIdeal.Read

/-- The reference's normalised prompt rows. -/
theorem ref1 (x0 : FVec Ideal S16384x1024 .f32) (x1 : FVec Ideal S1024 .f32) (x2 : FVec Ideal S8x6x1024 .f32)
  (b : Fin 32) (t : Fin 256) (k : Fin 1024) : val_main_v27 (F := Ideal) x0 x1 x2 (ix3 b t k) = FfnSpec.normed (fun l => x0 (ix2 ⟨b * 256 + t, by omega⟩ l)) (fun l => x1 (ix1 l)) (fun l => x2 (ix3 0 0 l)) (fun l => x2 (ix3 0 1 l)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, FfnSpec.normed]

/-- The reference's normalised sample rows. -/
theorem ref2 (x0 : FVec Ideal S16384x1024 .f32) (x1 : FVec Ideal S1024 .f32) (x2 : FVec Ideal S8x6x1024 .f32)
  (b : Fin 4) (t : Fin 2048) (k : Fin 1024) : val_main_v56 (F := Ideal) x0 x1 x2 (ix3 b t k) = FfnSpec.normed (fun l => x0 (ix2 ⟨8192 + (b * 2048 + t), by omega⟩ l)) (fun l => x1 (ix1 l)) (fun l => x2 (ix3 ⟨1 + b, by omega⟩ 0 l)) (fun l => x2 (ix3 ⟨1 + b, by omega⟩ 1 l)) k := by
  pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_cst_3, val_main_cst_4, val_main_cst_5, val_main_cst_6, FfnSpec.normed]

/-- The reference's projection of the prompt rows. -/
theorem ref1' (x0 : FVec Ideal S16384x1024 .f32) (x1 : FVec Ideal S1024 .f32) (x2 : FVec Ideal S8x6x1024 .f32) (x3 : FVec Ideal S1024x3072 .f32)
  (b : Fin 32) (t : Fin 256) (f : Fin 3072) : val_main_v28 (F := Ideal) x0 x1 x2 x3 (ix3 b t f) = OUT x0 x1 x2 x3 (ix2 ⟨b * 256 + t, by omega⟩ f) := by
  have e : modRow (b * 256 + t) = 0 := if_pos (by omega)
  pointwise [val_main_v28, ref1, proj, e]

/-- The reference's projection of the sample rows. -/
theorem ref2' (x0 : FVec Ideal S16384x1024 .f32) (x1 : FVec Ideal S1024 .f32) (x2 : FVec Ideal S8x6x1024 .f32) (x3 : FVec Ideal S1024x3072 .f32)
  (b : Fin 4) (t : Fin 2048) (f : Fin 3072) : val_main_v57 (F := Ideal) x0 x1 x2 x3 (ix3 b t f) = OUT x0 x1 x2 x3 (ix2 ⟨8192 + (b * 2048 + t), by omega⟩ f) := by
  have e : modRow (8192 + (b * 2048 + t)) = 1 + b := (if_neg (by omega)).trans (by omega)
  pointwise [val_main_v57, ref2, proj, e]

/-- The reference's first result is the projection. -/
theorem ref (x0 : FVec Ideal S16384x1024 .f32) (x1 : FVec Ideal S1024 .f32) (x2 : FVec Ideal S8x6x1024 .f32) (x3 : FVec Ideal S1024x3072 .f32) :
   val_main_v66 (F := Ideal) x0 x1 x2 x3 = OUT x0 x1 x2 x3 := by
  funext i
  idx_vars i
  pointwise [val_main_v66, val_main_v64, val_main_v65, ref1', ref2']
  by_cases h : (i0 : ℕ) < 8192
  · rw [dif_pos h]
    have e : (i0 : ℕ) / 256 * 256 + (i0 : ℕ) % 256 = i0 := by omega
    simp only [e, Fin.eta]
  · rw [dif_neg h]
    have e : 8192 + (((i0 : ℕ) - 8192) / 2048 * 2048 + ((i0 : ℕ) - 8192) % 2048) = i0 := by omega
    simp only [e, Fin.eta]

/-- Its second result, the keys of the prompt rows, is the slice that the kernel's program returns. -/
theorem refK (x0 : FVec Ideal S16384x1024 .f32) (x1 : FVec Ideal S1024 .f32) (x2 : FVec Ideal S8x6x1024 .f32) (x3 : FVec Ideal S1024x3072 .f32)
   (b : Fin 32) (z : Fin 1) (t : Fin 256) (h : Fin 8) (e : Fin 128) :
   val_main_v67 (F := Ideal) x0 x1 x2 x3 (ix5 b z t h e) = OUT x0 x1 x2 x3 (ix2 ⟨b * 256 + t, by omega⟩ ⟨1024 + (h * 128 + e), by omega⟩) := by
  pointwise [val_main_v67, val_main_v62, val_main_v59, ref1']
  exact congrArg (fun j => OUT x0 x1 x2 x3 (ix2 _ j)) (Fin.ext (by dsimp only; omega))

/-- Its third, the values of the prompt rows, likewise. -/
theorem refV (x0 : FVec Ideal S16384x1024 .f32) (x1 : FVec Ideal S1024 .f32) (x2 : FVec Ideal S8x6x1024 .f32) (x3 : FVec Ideal S1024x3072 .f32)
   (b : Fin 32) (z : Fin 1) (t : Fin 256) (h : Fin 8) (e : Fin 128) :
   val_main_v68 (F := Ideal) x0 x1 x2 x3 (ix5 b z t h e) = OUT x0 x1 x2 x3 (ix2 ⟨b * 256 + t, by omega⟩ ⟨2048 + (h * 128 + e), by omega⟩) := by
  pointwise [val_main_v68, val_main_v63, val_main_v60, ref1']
end
section
open Cert.QkvIdeal Cert.QkvIdeal.Gen
variable (m : (ℓ : Loc nD τ sig) → Buf (Elt Ideal) ℓ)

/-- The reference's keys are those columns of the array the launch leaves. -/
theorem keys (c : Dev nD) : Cert.QkvRefIdeal.Read.val_main_v67 (F := Ideal) (m ((c : Thread nD τ).loc main_arg0)) (m ((c : Thread nD τ).loc main_arg1)) (m ((c : Thread nD τ).loc main_arg2)) (m ((c : Thread nD τ).loc main_arg3)) =
    Pipeline.afterTail₀ cfgs (dats m) 0 (V0 m) [hostOps1] c main_v4 := by
  rw [tailK, final]
  funext i
  idx_vars i
  rw [refK]
  pointwise []

/-- The reference's values likewise. -/
theorem values (c : Dev nD) : Cert.QkvRefIdeal.Read.val_main_v68 (F := Ideal) (m ((c : Thread nD τ).loc main_arg0)) (m ((c : Thread nD τ).loc main_arg1)) (m ((c : Thread nD τ).loc main_arg2)) (m ((c : Thread nD τ).loc main_arg3)) =
    Pipeline.afterTail₀ cfgs (dats m) 0 (V0 m) [hostOps1] c main_v6 := by
  rw [tailV, final]
  funext i
  idx_vars i
  rw [refV]
  pointwise []
end
end Cert.QkvIdeal.Value

end
-- ==== Proof.NormIdeal.Run.lean ====
/- What the memory holds when the two launches of the final norms are over: the generated frame keeps only the arguments,
   and the values need the results as well. -/
module

public import proofs.«01_k».proof.Proof.Gen.NormIdeal.Frame

@[expose] public section

set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
namespace Cert.NormIdeal.Value
open Cert.NormIdeal Cert.NormIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends with each unscoped buffer at the contents of the last boundary. -/
theorem ends : θ_run (defs (F := F)) (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit_sems (pcfgs (F := F)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htoks
      imodintro
      isplitl [Htoks]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htoks
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hbufs, Hgen, Howes⟩
      isplitl [Hbufs Hgen]
      · isplitl [Hbufs] <;> iassumption
      · iexact Howes⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hgen, -⟩, -⟩
      imodintro
      isplitl [Hbufs]
      · iexact Hbufs
      isplitl [Hgen]
      · iexists _; iexact Hgen
      · iexists ∅; iexact Howes)
    (QY := fun c s => ∀ b ∈ Pipeline.ucRefs τ sig, s.mem (((c : Thread nD τ)).1, b) = W5 m ρ c b)
    (hfin := fun c s' => by
      iintro ⟨⟨Hbufs, -⟩, Hst⟩
      unfold StableHlo.held
      imodintro
      iapply (pointsTo_read_all (Pipeline.ucRefs τ sig) (fun b => (((c : Thread nD τ)).1, b)) (W5 m ρ c) s')
      isplitl [Hbufs] <;> iassumption)
    (hQ := fun _ h _ => h)

/-- The final memory of the two results and the two arguments. -/
theorem run : θ_run (defs (F := F)) (onTc (τ := τ) (main (F := F))) ⟨m, fun _ => 0, ρ⟩ (fun r => ∀ c : Dev nD,
      r.2.mem ((c.tc : Thread nD τ).loc main_v2) = W5 m ρ c (Proc.devRef .tc main_v2)
      ∧ r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v2 (by decide)), h c _ (mem_uc main_v5 (by decide)),
     (h c _ (mem_uc main_arg0 (by decide))).trans (W5_main_arg0 m ρ c),
     (h c _ (mem_uc main_arg1 (by decide))).trans (W5_main_arg1 m ρ c)⟩) (ends m ρ)

end Cert.NormIdeal.Value

end
-- ==== Proof.NormIdeal.Value.lean ====
/- The two final norms and their reference, each read at an index and compared with one formula. -/
module

public import proofs.«01_k».proof.Proof.NormIdeal.Run
public import proofs.«01_k».proof.Proof.Gen.NormRefIdeal.Read
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.NormIdeal.Value

/-- A row divided by its root mean square, times the norm's weights. -/
def rms (y g : Fin 1024 → EReal) (k : Fin 1024) : EReal :=
  y k * Ideal.rsqrt (Ideal.div (∑ l, y l * y l) (Ideal.ofBits .f32 0x44800000#32) + Ideal.ofBits .f32 0x358637BD#32) * g k

section
open Cert.NormIdeal Cert.NormIdeal.Gen
variable (m : (ℓ : Loc nD τ sig) → Buf (Elt Ideal) ℓ) (ρ : Dev nD → PrngReg)

/-- What a grid point of the first launch leaves: the norms of the staged rows. -/
theorem point0 (x0 : FVec Ideal S512x1024 .f32) (x1 : FVec Ideal S1x1024 .f32) (r : Fin 512) (k : Fin 1024) :
   out0_2 (F := Ideal) x0 x1 (ix2 r k) = rms (fun l => x0 (ix2 r l)) (fun l => x1 (ix2 0 l)) k := by
  unfold out0_2
  canon_tiles z h
  open_payloads
  idx_vars z
  pointwise [rms]
  obtain rfl : r = z0 := Fin.ext h0
  obtain rfl : k = z1 := Fin.ext h1
  rfl

/-- The second launch runs the same body. -/
theorem point1 (x0 : FVec Ideal S512x1024 .f32) (x1 : FVec Ideal S1x1024 .f32) (r : Fin 512) (k : Fin 1024) :
   out1_2 (F := Ideal) x0 x1 (ix2 r k) = rms (fun l => x0 (ix2 r l)) (fun l => x1 (ix2 0 l)) k :=
  point0 x0 x1 r k

/-- Where the prompt's rows lie among all rows, -/
def lo (r : Fin 8192) : Fin 16384 := ⟨r, by omega⟩

/-- and where the samples' do. -/
def hi (r : Fin 8192) : Fin 16384 := ⟨8192 + r, by omega⟩

/-- The norms of the rows that `e` chooses. -/
abbrev OUT (e : Fin 8192 → Fin 16384) (y : FVec Ideal S16384x1024 .f32) (g : FVec Ideal S1024 .f32) : FVec Ideal S8192x1024 .f32 := fun i =>
  rms (fun l => y (ix2 (e (i 0)) l)) (fun l => g (ix1 l)) (i 1)

/-- The block each window stages at a grid point of the first launch, -/
theorem idx0 : ∀ t : Fin cfg0.N, win0_0.index t = ![t.val, 0] ∧ win0_1.index t = ![0, 0] ∧ win0_2.index t = ![t.val, 0] :=
  (by decide +kernel : ∀ t : Fin grid0.N, _)

/-- and of the second, whose rows start sixteen blocks further down. -/
theorem idx1 : ∀ t : Fin cfg1.N, win1_0.index t = ![16 + t.val, 0] ∧ win1_1.index t = ![0, 0] ∧ win1_2.index t = ![t.val, 0] :=
  (by decide +kernel : ∀ t : Fin grid1.N, _)

/-- The norm's weights as the first launch finds them, -/
theorem gain0 (c : Dev nD) : V1 m ρ c main_v0 = shapeCast S1x1024 (m ((c : Thread nD τ).loc main_arg1)) shapeCasts_S1024_S1x1024 := by
  show StableHlo.after hostOps0 (W0 m ρ c) (Proc.devRef .tc main_v0) = _
  unfold hostOps0
  after_results
  rfl

/-- and as the second does. -/
theorem gain1 (c : Dev nD) : V3 m ρ c main_v3 = shapeCast S1x1024 (m ((c : Thread nD τ).loc main_arg1)) shapeCasts_S1024_S1x1024 := by
  rw [← W2_args m ρ c main_arg1 (by decide)]
  show StableHlo.after hostOps1 (W2 m ρ c) (Proc.devRef .tc main_v3) = _
  generalize W2 m ρ c = W
  unfold hostOps1
  after_results
  rfl

/-- The first launch leaves the norms of the prompt's rows. -/
theorem final0 (c : Dev nD) : (dat0 (V1 m ρ) c).arrAt 2 cfg0.N = OUT lo (m ((c : Thread nD τ).loc main_arg0)) (m ((c : Thread nD τ).loc main_arg1)) := by
  refine (dat0 (V1 m ρ) c).arrAt_eq_of_covers 2 _ (by decide +kernel) fun t _ y => ?_
  blk_simp; rw [after0_2]
  have ht : t.val < 16 := lt_of_lt_of_eq t.isLt N_0
  obtain ⟨i0, i1, i2⟩ := idx0 t
  idx_vars y
  have he : ((View.whole main_v1).slice (win0_2.rect t)).emb (ix2 y0 y1) = ix2 ⟨t.val * 512 + y0, by omega⟩ y1 := by blk_ext [i2]
  refine (point0 _ _ y0 y1).trans ?_
  rw [he]
  have hy : V1 m ρ c main_arg0 = m ((c : Thread nD τ).loc main_arg0) := W1_args m ρ c main_arg0 (by decide)
  have b0 : ∀ l, (iblk0 (V1 m ρ) c 0 t : FVec Ideal S512x1024 .f32) (ix2 y0 l) = m ((c : Thread nD τ).loc main_arg0) (ix2 (lo ⟨t.val * 512 + y0, by omega⟩) l) := fun l => by
    have he0 : (win0_0.blk t).view.emb (ix2 y0 l) = (ix2 (lo ⟨t.val * 512 + y0, by omega⟩) l : S16384x1024.Idx) := by blk_ext [i0, lo]
    show V1 m ρ c main_arg0 ((win0_0.blk t).view.emb (ix2 y0 l)) = _
    rw [he0, hy]
  have b1 : ∀ l, (iblk0 (V1 m ρ) c 1 t : FVec Ideal S1x1024 .f32) (ix2 0 l) = m ((c : Thread nD τ).loc main_arg1) (ix1 l) := fun l => by
    have he1 : (win0_1.blk t).view.emb (ix2 0 l) = (ix2 0 l : S1x1024.Idx) := by blk_ext [i1]
    show V1 m ρ c main_v0 ((win0_1.blk t).view.emb (ix2 0 l)) = _
    rw [he1, gain0]
    pointwise []
  simp only [OUT, ix2_0, ix2_1, b0, b1]

/-- The second launch leaves the norms of the samples' rows. -/
theorem final1 (c : Dev nD) : (dat1 (V3 m ρ) c).arrAt 2 cfg1.N = OUT hi (m ((c : Thread nD τ).loc main_arg0)) (m ((c : Thread nD τ).loc main_arg1)) := by
  refine (dat1 (V3 m ρ) c).arrAt_eq_of_covers 2 _ (by decide +kernel) fun t _ y => ?_
  blk_simp; rw [after1_2]
  have ht : t.val < 16 := lt_of_lt_of_eq t.isLt N_1
  obtain ⟨i0, i1, i2⟩ := idx1 t
  idx_vars y
  have he : ((View.whole main_v4).slice (win1_2.rect t)).emb (ix2 y0 y1) = ix2 ⟨t.val * 512 + y0, by omega⟩ y1 := by blk_ext [i2]
  refine (point1 _ _ y0 y1).trans ?_
  rw [he]
  have hy : V3 m ρ c main_arg0 = m ((c : Thread nD τ).loc main_arg0) := W3_args m ρ c main_arg0 (by decide)
  have b0 : ∀ l, (iblk1 (V3 m ρ) c 0 t : FVec Ideal S512x1024 .f32) (ix2 y0 l) = m ((c : Thread nD τ).loc main_arg0) (ix2 (hi ⟨t.val * 512 + y0, by omega⟩) l) := fun l => by
    have he0 : (win1_0.blk t).view.emb (ix2 y0 l) = (ix2 (hi ⟨t.val * 512 + y0, by omega⟩) l : S16384x1024.Idx) := by blk_ext [i0, hi]
    show V3 m ρ c main_arg0 ((win1_0.blk t).view.emb (ix2 y0 l)) = _
    rw [he0, hy]
  have b1 : ∀ l, (iblk1 (V3 m ρ) c 1 t : FVec Ideal S1x1024 .f32) (ix2 0 l) = m ((c : Thread nD τ).loc main_arg1) (ix1 l) := fun l => by
    have he1 : (win1_1.blk t).view.emb (ix2 0 l) = (ix2 0 l : S1x1024.Idx) := by blk_ext [i1]
    show V3 m ρ c main_v3 ((win1_1.blk t).view.emb (ix2 0 l)) = _
    rw [he1, gain1]
    pointwise []
  simp only [OUT, ix2_0, ix2_1, b0, b1]

/-- The first result as the program returns it. -/
theorem prompt (c : Dev nD) : W5 m ρ c (Proc.devRef .tc main_v2) = shapeCast S32x256x1024 (OUT lo (m ((c : Thread nD τ).loc main_arg0)) (m ((c : Thread nD τ).loc main_arg1))) shapeCasts_S8192x1024_S32x256x1024 := by
  rw [W5_of m ρ c main_v2 (by decide), W4_of m ρ c main_v2 (by decide), ← final0 m ρ c, ← W2_arr m ρ c 2]
  show StableHlo.after hostOps1 (W2 m ρ c) (Proc.devRef .tc main_v2) = _
  generalize W2 m ρ c = W
  unfold hostOps1
  after_results
  rfl

/-- The second result as the program returns it. -/
theorem sample (c : Dev nD) : W5 m ρ c (Proc.devRef .tc main_v5) = shapeCast S4x2048x1024 (OUT hi (m ((c : Thread nD τ).loc main_arg0)) (m ((c : Thread nD τ).loc main_arg1))) shapeCasts_S8192x1024_S4x2048x1024 := by
  rw [← final1 m ρ c, ← W4_arr m ρ c 2]
  show StableHlo.after hostOps2 (W4 m ρ c) (Proc.devRef .tc main_v5) = _
  generalize W4 m ρ c = W
  unfold hostOps2
  after_results
  rfl
end

section
open Cert.NormRefIdeal Cert.NormRefIdeal.Gen Cert.NormRefIdeal.Read

/-- The reference's prompt rows, -/
theorem ref0 (x0 : FVec Ideal S16384x1024 .f32) (x1 : FVec Ideal S1024 .f32) (b : Fin 32) (t : Fin 256) (k : Fin 1024) :
   val_main_v14 (F := Ideal) x0 x1 (ix3 b t k) = rms (fun l => x0 (ix2 (lo ⟨b * 256 + t, by omega⟩) l)) (fun l => x1 (ix1 l)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, rms, lo]

/-- and its sample rows. -/
theorem ref1 (x0 : FVec Ideal S16384x1024 .f32) (x1 : FVec Ideal S1024 .f32) (b : Fin 4) (t : Fin 2048) (k : Fin 1024) :
   val_main_v29 (F := Ideal) x0 x1 (ix3 b t k) = rms (fun l => x0 (ix2 (hi ⟨b * 2048 + t, by omega⟩) l)) (fun l => x1 (ix1 l)) k := by
  pointwise [val_main_v15, val_main_v16, val_main_v17, val_main_v18, val_main_v19, val_main_v20, val_main_v21, val_main_v22, val_main_v23, val_main_v24, val_main_v25, val_main_v26, val_main_v27, val_main_v28, val_main_v29, val_main_cst_2, val_main_cst_3, val_main_cst_4, rms, hi]
end

section
open Cert.NormIdeal Cert.NormIdeal.Gen
variable (m : (ℓ : Loc nD τ sig) → Buf (Elt Ideal) ℓ) (ρ : Dev nD → PrngReg)

/-- The two programs' first results agree, -/
theorem same0 (c : Dev nD) : Cert.NormRefIdeal.Read.val_main_v14 (F := Ideal) (m ((c : Thread nD τ).loc main_arg0)) (m ((c : Thread nD τ).loc main_arg1)) = W5 m ρ c (Proc.devRef .tc main_v2) := by
  rw [prompt]
  funext i
  idx_vars i
  rw [ref0]
  pointwise []
  rfl

/-- and their second. -/
theorem same1 (c : Dev nD) : Cert.NormRefIdeal.Read.val_main_v29 (F := Ideal) (m ((c : Thread nD τ).loc main_arg0)) (m ((c : Thread nD τ).loc main_arg1)) = W5 m ρ c (Proc.devRef .tc main_v5) := by
  rw [sample]
  funext i
  idx_vars i
  rw [ref1]
  pointwise []
  rfl
end

end Cert.NormIdeal.Value

end
-- ==== Proof.GmlpIdeal.Run.lean ====
/- What the memory holds when the three launches of the spatial gating are over: the generated frame keeps only the arguments,
   and the value needs the result as well. -/
module

public import proofs.«01_k».proof.Proof.Gen.GmlpIdeal.Frame

@[expose] public section

set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
namespace Cert.GmlpIdeal.Value
open Cert.GmlpIdeal Cert.GmlpIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends with each unscoped buffer at the contents of the last boundary. -/
theorem ends : θ_run (defs (F := F)) (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit_sems (pcfgs (F := F)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htoks
      imodintro
      isplitl [Htoks]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htoks
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hgen, -⟩, -⟩
      imodintro
      isplitl [Hbufs]
      · iexact Hbufs
      isplitl [Hgen]
      · iexists _; iexact Hgen
      · iexists ∅; iexact Howes)
    (QY := fun c s => ∀ b ∈ Pipeline.ucRefs τ sig, s.mem (((c : Thread nD τ)).1, b) = W6 m ρ c b)
    (hfin := fun c s' => by
      iintro ⟨⟨Hbufs, -⟩, Hst⟩
      unfold StableHlo.held
      imodintro
      iapply (pointsTo_read_all (Pipeline.ucRefs τ sig) (fun b => (((c : Thread nD τ)).1, b)) (W6 m ρ c) s')
      isplitl [Hbufs] <;> iassumption)
    (hQ := fun _ h _ => h)

/-- The final memory of the result and the arguments. -/
theorem run : θ_run (defs (F := F)) (onTc (τ := τ) (main (F := F))) ⟨m, fun _ => 0, ρ⟩ (fun r => ∀ c : Dev nD,
      r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v8 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (ends m ρ)

end Cert.GmlpIdeal.Value

end
-- ==== Proof.GmlpIdeal.Value.lean ====
/- The spatial gating sub-layer's three launches, each read at an index and compared with scalar formulas. -/
module

public import proofs.«01_k».proof.Proof.Gen.GmlpIdeal.Frame
public import proofs.«01_k».proof.Proof.FfnIdeal.Spec
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.GmlpIdeal.Value
open Cert.FfnSpec (modRow modRow_lt)

/-- The gelu in its tanh form. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- A normed row against one column of the first weight matrix, through the gelu. -/
def hidden (h : Fin 1024 → EReal) (w : Fin 1024 → Fin 2048 → EReal) (f : Fin 2048) : EReal :=
  gelu (∑ k, h k * w k f)

/-- The mean of a row. -/
def mean (v : Fin 1024 → EReal) : EReal := Ideal.div (∑ l, v l) (Ideal.ofBits .f32 0x44800000#32)

/-- The layer norm of a row. -/
def layerNorm (v g : Fin 1024 → EReal) (d : Fin 1024) : EReal :=
  (v d - mean v) * Ideal.rsqrt (mean (fun l => (v l - mean v) * (v l - mean v)) + Ideal.ofBits .f32 0x3727C5AC#32) * g d

/-- One row of a chunk after the spatial gate: the row's first half times the mixed second halves of the chunk's 128 rows. -/
def gate (u : EReal) (v : Fin 128 → Fin 1024 → EReal) (g : Fin 1024 → EReal) (ws : Fin 128 → EReal) (bs : EReal) (d : Fin 1024) : EReal :=
  u * (∑ p, ws p * layerNorm (v p) g d + bs)

section
open Cert.GmlpIdeal Cert.GmlpIdeal.Gen
variable (m : (ℓ : Loc nD τ sig) → Buf (Elt Ideal) ℓ) (ρ : Dev nD → PrngReg)

/-- What a grid point of the first launch leaves. -/
theorem point0 (x0 : FVec Ideal S512x1024 .f32) (x1 : FVec Ideal S1x1024 .f32) (x2 : FVec Ideal S1x6x1024 .f32) (x3 : FVec Ideal S1024x2048 .bf16) (r : Fin 512) (f : Fin 2048) :
   out0_4 (F := Ideal) x0 x1 x2 x3 (ix2 r f) = hidden (FfnSpec.normed (fun l => x0 (ix2 r l)) (fun l => x1 (ix2 0 l)) (fun l => x2 (ix3 0 0 l)) (fun l => x2 (ix3 0 1 l))) (fun k f => x3 (ix2 k f)) f := by
  unfold_out out0_4
  canon_tiles z h
  all_goals
    open_payloads
    idx_vars z
    pointwise [hidden, gelu, FfnSpec.normed]
    obtain rfl : r = z0 := Fin.ext h0
    exact congrArg gelu (Finset.sum_congr rfl fun k _ => congrArg _ (congrArg (fun j => x3 (ix2 k j)) (Fin.ext (by dsimp only; omega))))

/-- A lane among the first half's columns, -/
def up (d : Fin 1024) : Fin 2048 := ⟨d, by omega⟩

/-- and among the second half's. -/
def down (l : Fin 1024) : Fin 2048 := ⟨1024 + l, by omega⟩

/-- Row `p` of the chunk that row `r` lies in, -/
def chunkRow (r : Fin 256) (p : Fin 128) : Fin 256 := ⟨r / 128 * 128 + p, by omega⟩

/-- the place of row `r` in its chunk, -/
def inChunk (r : Fin 256) : Fin 128 := ⟨r % 128, by omega⟩

/-- and the group that a lane belongs to. -/
def group (d : Fin 1024) : Fin 8 := ⟨d / 128, by omega⟩

/-- The layer norms of the rows that a grid point of the second launch holds. -/
theorem normRows (x0 : FVec Ideal S256x2048 .f32) (x1 : FVec Ideal S1x1024 .f32) (x2 : FVec Ideal S8x128x128 .bf16) (x3 : FVec Ideal S128x8 .f32) (r : Fin 256) (d : Fin 1024) :
   k1_pay21 (F := Ideal) x0 x1 x2 x3 (ix2 r d) = layerNorm (fun l => x0 (ix2 r (down l))) (fun l => x1 (ix2 0 l)) d := by
  unfold k1_pay21
  open_payloads
  pointwise [layerNorm, mean, down]

/-- A tile's formula is the gate at the row and the lane that the tile's own coordinates name. -/
theorem tile (x0 : FVec Ideal S256x2048 .f32) (x1 : FVec Ideal S1x1024 .f32) (x2 : FVec Ideal S8x128x128 .bf16) (x3 : FVec Ideal S128x8 .f32) (r : Fin 256) (d : Fin 1024)
   (r' : Fin 256) (d' : Fin 1024) (f : Fin 2048) (rows : Fin 128 → Fin 256) (g : Fin 8) (q : Fin 128)
   (hr : r = r') (hd : d = d') (hf : up d = f) (hrows : ∀ p, chunkRow r p = rows p) (hg : group d = g) (hq : inChunk r = q) :
   x0 (ix2 r' f) * (∑ p, x2 (ix3 g q p) * layerNorm (fun l => x0 (ix2 (rows p) (down l))) (fun l => x1 (ix2 0 l)) d' + x3 (ix2 q g)) =
   gate (x0 (ix2 r (up d))) (fun p l => x0 (ix2 (chunkRow r p) (down l))) (fun l => x1 (ix2 0 l)) (fun p => x2 (ix3 (group d) (inChunk r) p)) (x3 (ix2 (inChunk r) (group d))) d := by
  obtain rfl : chunkRow r = rows := funext hrows
  subst hr hd hf hg hq
  rfl

set_option maxHeartbeats 1000000 in
/-- What a grid point of the second launch leaves: 16 tiles of 128 rows by 128 lanes. -/
theorem point1 (x0 : FVec Ideal S256x2048 .f32) (x1 : FVec Ideal S1x1024 .f32) (x2 : FVec Ideal S8x128x128 .bf16) (x3 : FVec Ideal S128x8 .f32) (r : Fin 256) (d : Fin 1024) :
   out1_4 (F := Ideal) x0 x1 x2 x3 (ix2 r d) =
   gate (x0 (ix2 r (up d))) (fun p l => x0 (ix2 (chunkRow r p) (down l))) (fun l => x1 (ix2 0 l)) (fun p => x2 (ix3 (group d) (inChunk r) p)) (x3 (ix2 (inChunk r) (group d))) d := by
  have hV := normRows x0 x1 x2 x3
  unfold out1_4
  revert hV
  generalize k1_pay21 (F := Ideal) x0 x1 x2 x3 = W
  intro hV
  canon_tiles z h
  case piece15 =>
    open_payloads
    idx_vars z
    refine Eq.trans ?_ (tile x0 x1 x2 x3 r d ⟨z0, by omega⟩ ⟨z1, by omega⟩ ⟨z1, by omega⟩ (fun p => ⟨p, by omega⟩) 0 z0 (Fin.ext h0) (Fin.ext h1) (Fin.ext h1)
      (fun p => Fin.ext (by dsimp only [chunkRow]; omega)) (Fin.ext (by dsimp [group]; omega)) (Fin.ext (by dsimp only [inChunk]; omega)))
    pointwise [layerNorm, mean, down]
  all_goals
    open_payloads
    idx_vars z
    pointwise [hV]
    refine Eq.trans ?_ (tile x0 x1 x2 x3 r d ⟨r - z0 + z0, by omega⟩ ⟨d - z1 + z1, by omega⟩ ⟨d - z1 + z1, by omega⟩ (fun p => ⟨r - z0 + p, by omega⟩) ⟨(d - z1) / 128, by omega⟩ z0
      (Fin.ext (by dsimp only; omega)) (Fin.ext (by dsimp only; omega)) (Fin.ext (by dsimp only [up]; omega))
      (fun p => Fin.ext (by dsimp only [chunkRow]; omega)) (Fin.ext (by dsimp only [group]; omega)) (Fin.ext (by dsimp only [inChunk]; omega)))
    simp only [h0, h1, Nat.add_sub_cancel, Nat.sub_self, Nat.zero_add, Nat.reduceDiv, Fin.reduceFinMk, Fin.eta]

/-- What a grid point of the third launch leaves. -/
theorem point2 (x0 : FVec Ideal S512x1024 .bf16) (x1 : FVec Ideal S1024x1024 .bf16) (x2 : FVec Ideal S512x1024 .f32) (x3 : FVec Ideal S1x6x1024 .f32) (r : Fin 512) (d : Fin 1024) :
   out2_4 (F := Ideal) x0 x1 x2 x3 (ix2 r d) = x2 (ix2 r d) + x3 (ix3 0 2 d) * ∑ k, x0 (ix2 r k) * x1 (ix2 k d) := by
  unfold out2_4
  canon_tiles z h
  open_payloads
  idx_vars z
  pointwise []
  obtain rfl : r = z0 := Fin.ext h0
  obtain rfl : d = z1 := Fin.ext h1
  rfl
end

end Cert.GmlpIdeal.Value

end
-- ==== Proof.GmlpIdeal.Final.lean ====
/- What the three launches of the spatial gating leave in memory, each as one function of the arguments. -/
module

public import proofs.«01_k».proof.Proof.GmlpIdeal.Run
public import proofs.«01_k».proof.Proof.GmlpIdeal.Value
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.GmlpIdeal.Value
open Cert.FfnSpec (modRow modRow_lt)
open Cert.GmlpIdeal Cert.GmlpIdeal.Gen

/-- The hidden rows of both streams, -/
abbrev HID (x0 : FVec Ideal S16384x1024 .f32) (x1 : FVec Ideal S1024 .f32) (x2 : FVec Ideal S8x6x1024 .f32) (x3 : FVec Ideal S1024x2048 .f32) : FVec Ideal S16384x2048 .f32 := fun i =>
  Value.hidden (FfnSpec.normed (fun l => x0 (ix2 (i 0) l)) (fun l => x1 (ix1 l)) (fun l => x2 (ix3 ⟨modRow (i 0), modRow_lt _⟩ 0 l)) (fun l => x2 (ix3 ⟨modRow (i 0), modRow_lt _⟩ 1 l))) (fun k f => x3 (ix2 k f)) (i 1)

/-- the row that place `p` of row `n`'s chunk holds, -/
def mate (n : Fin 16384) (p : Fin 128) : Fin 16384 := ⟨n / 128 * 128 + p, by omega⟩

/-- the place of a row in its chunk, -/
def place (n : Fin 16384) : Fin 128 := ⟨n % 128, by omega⟩

/-- the gated rows -/
abbrev GATED (h : FVec Ideal S16384x2048 .f32) (x4 : FVec Ideal S1024 .f32) (x5 : FVec Ideal S8x128x128 .f32) (x6 : FVec Ideal S8x128 .f32) : FVec Ideal S16384x1024 .bf16 := fun i =>
  gate (h (ix2 (i 0) (up (i 1)))) (fun p l => h (ix2 (mate (i 0) p) (down l))) (fun l => x4 (ix1 l)) (fun p => x5 (ix3 (group (i 1)) (place (i 0)) p)) (x6 (ix2 (group (i 1)) (place (i 0)))) (i 1)

/-- and the layer's result. -/
abbrev OUT (u : FVec Ideal S16384x1024 .bf16) (x0 : FVec Ideal S16384x1024 .f32) (x2 : FVec Ideal S8x6x1024 .f32) (x7 : FVec Ideal S1024x1024 .f32) : FVec Ideal S16384x1024 .f32 := fun i =>
  x0 (ix2 (i 0) (i 1)) + x2 (ix3 ⟨modRow (i 0), modRow_lt _⟩ 2 (i 1)) * ∑ k, u (ix2 (i 0) k) * x7 (ix2 k (i 1))

variable (m : (ℓ : Loc nD τ sig) → Buf (Elt Ideal) ℓ) (ρ : Dev nD → PrngReg)

/-- The block each window stages at a grid point of the first launch, -/
theorem idx0 : ∀ t : Fin cfg0.N, win0_0.index t = ![t.val, 0] ∧ win0_1.index t = ![0, 0] ∧ win0_2.index t = ![modRow (t.val * 512), 0, 0] ∧ win0_3.index t = ![0, 0] ∧ win0_4.index t = ![t.val, 0] :=
  (by decide +kernel : ∀ t : Fin grid0.N, _)

/-- of the second, -/
theorem idx1 : ∀ t : Fin cfg1.N, win1_0.index t = ![t.val, 0] ∧ win1_1.index t = ![0, 0] ∧ win1_2.index t = ![0, 0, 0] ∧ win1_3.index t = ![0, 0] ∧ win1_4.index t = ![t.val, 0] :=
  (by decide +kernel : ∀ t : Fin grid1.N, _)

/-- and of the third. -/
theorem idx2 : ∀ t : Fin cfg2.N, win2_0.index t = ![t.val, 0] ∧ win2_1.index t = ![0, 0] ∧ win2_2.index t = ![t.val, 0] ∧ win2_3.index t = ![modRow (t.val * 512), 0, 0] ∧ win2_4.index t = ![t.val, 0] :=
  (by decide +kernel : ∀ t : Fin grid2.N, _)

/-- The first launch's norm weights, -/
theorem gain0 (c : Dev nD) : V1 m ρ c main_v1 = shapeCast S1x1024 (m ((c : Thread nD τ).loc main_arg1)) shapeCasts_S1024_S1x1024 := by
  show StableHlo.after hostOps0 (W0 m ρ c) (Proc.devRef .tc main_v1) = _
  unfold hostOps0
  after_results
  rfl

/-- its matrix, -/
theorem matrix0 (c : Dev nD) : (V1 m ρ c main_v0 : FVec Ideal S1024x2048 .bf16) = truncf (F := Ideal) (s := S1024x2048) (φ := .f32) .bf16 (m ((c : Thread nD τ).loc main_arg3)) := by
  show StableHlo.after hostOps0 (W0 m ρ c) (Proc.devRef .tc main_v0) = _
  unfold hostOps0
  after_results

/-- the second launch's norm weights, -/
theorem gain1 (c : Dev nD) : V3 m ρ c main_v5 = shapeCast S1x1024 (m ((c : Thread nD τ).loc main_arg4)) shapeCasts_S1024_S1x1024 := by
  rw [← W2_args m ρ c main_arg4 (by decide)]
  show StableHlo.after hostOps1 (W2 m ρ c) (Proc.devRef .tc main_v5) = _
  generalize W2 m ρ c = W
  unfold hostOps1
  after_results
  rfl

/-- its mixing matrices -/
theorem matrix1 (c : Dev nD) : (V3 m ρ c main_v3 : FVec Ideal S8x128x128 .bf16) = truncf (F := Ideal) (s := S8x128x128) (φ := .f32) .bf16 (m ((c : Thread nD τ).loc main_arg5)) := by
  rw [← W2_args m ρ c main_arg5 (by decide)]
  show StableHlo.after hostOps1 (W2 m ρ c) (Proc.devRef .tc main_v3) = _
  generalize W2 m ρ c = W
  unfold hostOps1
  after_results

/-- and biases, -/
theorem bias1 (c : Dev nD) : V3 m ρ c main_v4 = transpose S128x8 [1, 0] (m ((c : Thread nD τ).loc main_arg6)) transposes_S8x128_S128x8_1_0 := by
  rw [← W2_args m ρ c main_arg6 (by decide)]
  show StableHlo.after hostOps1 (W2 m ρ c) (Proc.devRef .tc main_v4) = _
  generalize W2 m ρ c = W
  unfold hostOps1
  after_results

/-- and the third launch's matrix. -/
theorem matrix2 (c : Dev nD) : (V5 m ρ c main_v7 : FVec Ideal S1024x1024 .bf16) = truncf (F := Ideal) (s := S1024x1024) (φ := .f32) .bf16 (m ((c : Thread nD τ).loc main_arg7)) := by
  rw [← W4_args m ρ c main_arg7 (by decide)]
  show StableHlo.after hostOps2 (W4 m ρ c) (Proc.devRef .tc main_v7) = _
  generalize W4 m ρ c = W
  unfold hostOps2
  after_results

theorem modRow_block (t y : ℕ) (h : y < 512) : modRow (t * 512 + y) = modRow (t * 512) := by
  unfold modRow; split <;> split <;> omega

/-- The first launch leaves the hidden rows. -/
theorem final0 (c : Dev nD) : (dat0 (V1 m ρ) c).arrAt 4 cfg0.N = HID (m ((c : Thread nD τ).loc main_arg0)) (m ((c : Thread nD τ).loc main_arg1)) (m ((c : Thread nD τ).loc main_arg2)) (m ((c : Thread nD τ).loc main_arg3)) := by
  refine (dat0 (V1 m ρ) c).arrAt_eq_of_covers 4 _ (by decide +kernel) fun t _ y => ?_
  blk_simp; rw [after0_4]
  have ht : t.val < 32 := lt_of_lt_of_eq t.isLt N_0
  obtain ⟨i0, i1, i2, i3, i4⟩ := idx0 t
  idx_vars y
  have he : ((View.whole main_v2).slice (win0_4.rect t)).emb (ix2 y0 y1) = ix2 ⟨t.val * 512 + y0, by omega⟩ y1 := by blk_ext [i4]
  refine (point0 _ _ _ _ y0 y1).trans ?_
  rw [he]
  have hm := modRow_block t y0 (by omega)
  have h0 : V1 m ρ c main_arg0 = m ((c : Thread nD τ).loc main_arg0) := W1_args m ρ c main_arg0 (by decide)
  have h2 : V1 m ρ c main_arg2 = m ((c : Thread nD τ).loc main_arg2) := W1_args m ρ c main_arg2 (by decide)
  have b0 : ∀ l, (iblk0 (V1 m ρ) c 0 t : FVec Ideal S512x1024 .f32) (ix2 y0 l) = m ((c : Thread nD τ).loc main_arg0) (ix2 ⟨t.val * 512 + y0, by omega⟩ l) := fun l => by
    have e : (win0_0.blk t).view.emb (ix2 y0 l) = (ix2 ⟨t.val * 512 + y0, by omega⟩ l : S16384x1024.Idx) := by blk_ext [i0]
    show V1 m ρ c main_arg0 ((win0_0.blk t).view.emb (ix2 y0 l)) = _
    rw [e, h0]
  have b1 : ∀ l, (iblk0 (V1 m ρ) c 1 t : FVec Ideal S1x1024 .f32) (ix2 0 l) = m ((c : Thread nD τ).loc main_arg1) (ix1 l) := fun l => by
    have e : (win0_1.blk t).view.emb (ix2 0 l) = (ix2 0 l : S1x1024.Idx) := by blk_ext [i1]
    show V1 m ρ c main_v1 ((win0_1.blk t).view.emb (ix2 0 l)) = _
    rw [e, gain0]
    pointwise []
  have b2 : ∀ (s : Fin 6) l, (iblk0 (V1 m ρ) c 2 t : FVec Ideal S1x6x1024 .f32) (ix3 0 s l) = m ((c : Thread nD τ).loc main_arg2) (ix3 ⟨modRow (t.val * 512), modRow_lt ⟨t.val * 512, by omega⟩⟩ s l) := fun s l => by
    have e : (win0_2.blk t).view.emb (ix3 0 s l) = (ix3 ⟨modRow (t.val * 512), modRow_lt ⟨t.val * 512, by omega⟩⟩ s l : S8x6x1024.Idx) := by blk_ext [i2]
    show V1 m ρ c main_arg2 ((win0_2.blk t).view.emb (ix3 0 s l)) = _
    rw [e, h2]
  have b3 : ∀ k f, (iblk0 (V1 m ρ) c 3 t : FVec Ideal S1024x2048 .bf16) (ix2 k f) = m ((c : Thread nD τ).loc main_arg3) (ix2 k f) := fun k f => by
    have e : (win0_3.blk t).view.emb (ix2 k f) = (ix2 k f : S1024x2048.Idx) := by blk_ext [i3]
    show V1 m ρ c main_v0 ((win0_3.blk t).view.emb (ix2 k f)) = _
    rw [e]
    exact congrFun (matrix0 m ρ c) _
  simp only [HID, ix2_0, ix2_1, hm, b0, b1, b2, b3]

/-- The second launch finds them, -/
theorem found1 (c : Dev nD) : V3 m ρ c main_v2 = HID (m ((c : Thread nD τ).loc main_arg0)) (m ((c : Thread nD τ).loc main_arg1)) (m ((c : Thread nD τ).loc main_arg2)) (m ((c : Thread nD τ).loc main_arg3)) :=
  (W3_of m ρ c main_v2 (by decide)).trans ((W2_arr m ρ c 4).trans (final0 m ρ c))

/-- and leaves the gated rows. -/
theorem final1 (c : Dev nD) : (dat1 (V3 m ρ) c).arrAt 4 cfg1.N = GATED (V3 m ρ c main_v2) (m ((c : Thread nD τ).loc main_arg4)) (m ((c : Thread nD τ).loc main_arg5)) (m ((c : Thread nD τ).loc main_arg6)) := by
  refine (dat1 (V3 m ρ) c).arrAt_eq_of_covers 4 _ (by decide +kernel) fun t _ y => ?_
  blk_simp; rw [after1_4]
  have ht : t.val < 64 := lt_of_lt_of_eq t.isLt N_1
  obtain ⟨i0, i1, i2, i3, i4⟩ := idx1 t
  idx_vars y
  have he : ((View.whole main_v6).slice (win1_4.rect t)).emb (ix2 y0 y1) = ix2 ⟨t.val * 256 + y0, by omega⟩ y1 := by blk_ext [i4]
  refine (point1 _ _ _ _ y0 y1).trans ?_
  rw [he]
  have b0 : ∀ (r : Fin 256) f, (iblk1 (V3 m ρ) c 0 t : FVec Ideal S256x2048 .f32) (ix2 r f) = V3 m ρ c main_v2 (ix2 ⟨t.val * 256 + r, by omega⟩ f) := fun r f => by
    have e : (win1_0.blk t).view.emb (ix2 r f) = (ix2 ⟨t.val * 256 + r, by omega⟩ f : S16384x2048.Idx) := by blk_ext [i0]
    show V3 m ρ c main_v2 ((win1_0.blk t).view.emb (ix2 r f)) = _
    rw [e]
  have b1 : ∀ l, (iblk1 (V3 m ρ) c 1 t : FVec Ideal S1x1024 .f32) (ix2 0 l) = m ((c : Thread nD τ).loc main_arg4) (ix1 l) := fun l => by
    have e : (win1_1.blk t).view.emb (ix2 0 l) = (ix2 0 l : S1x1024.Idx) := by blk_ext [i1]
    show V3 m ρ c main_v5 ((win1_1.blk t).view.emb (ix2 0 l)) = _
    rw [e, gain1]
    pointwise []
  have b2 : ∀ g q p, (iblk1 (V3 m ρ) c 2 t : FVec Ideal S8x128x128 .bf16) (ix3 g q p) = m ((c : Thread nD τ).loc main_arg5) (ix3 g q p) := fun g q p => by
    have e : (win1_2.blk t).view.emb (ix3 g q p) = (ix3 g q p : S8x128x128.Idx) := by blk_ext [i2]
    show V3 m ρ c main_v3 ((win1_2.blk t).view.emb (ix3 g q p)) = _
    rw [e]
    exact congrFun (matrix1 m ρ c) _
  have b3 : ∀ q g, (iblk1 (V3 m ρ) c 3 t : FVec Ideal S128x8 .f32) (ix2 q g) = m ((c : Thread nD τ).loc main_arg6) (ix2 g q) := fun q g => by
    have e : (win1_3.blk t).view.emb (ix2 q g) = (ix2 q g : S128x8.Idx) := by blk_ext [i3]
    show V3 m ρ c main_v4 ((win1_3.blk t).view.emb (ix2 q g)) = _
    rw [e, bias1]
    pointwise []
  have ep : inChunk y0 = place ⟨t.val * 256 + y0, by omega⟩ := Fin.ext (by dsimp only [inChunk, place]; omega)
  have em : ∀ p, (⟨t.val * 256 + (chunkRow y0 p : Fin 256), by omega⟩ : Fin 16384) = mate ⟨t.val * 256 + y0, by omega⟩ p := fun p => Fin.ext (by dsimp only [chunkRow, mate]; omega)
  simp only [GATED, ix2_0, ix2_1, b0, b1, b2, b3, em, ep]

/-- The third launch finds those, -/
theorem found2 (c : Dev nD) : V5 m ρ c main_v6 = GATED (V3 m ρ c main_v2) (m ((c : Thread nD τ).loc main_arg4)) (m ((c : Thread nD τ).loc main_arg5)) (m ((c : Thread nD τ).loc main_arg6)) :=
  (W5_of m ρ c main_v6 (by decide)).trans ((W4_arr m ρ c 4).trans (final1 m ρ c))

/-- and leaves the layer's result. -/
theorem final2 (c : Dev nD) : (dat2 (V5 m ρ) c).arrAt 4 cfg2.N = OUT (V5 m ρ c main_v6) (m ((c : Thread nD τ).loc main_arg0)) (m ((c : Thread nD τ).loc main_arg2)) (m ((c : Thread nD τ).loc main_arg7)) := by
  refine (dat2 (V5 m ρ) c).arrAt_eq_of_covers 4 _ (by decide +kernel) fun t _ y => ?_
  blk_simp; rw [after2_4]
  have ht : t.val < 32 := lt_of_lt_of_eq t.isLt N_2
  obtain ⟨i0, i1, i2, i3, i4⟩ := idx2 t
  idx_vars y
  have he : ((View.whole main_v8).slice (win2_4.rect t)).emb (ix2 y0 y1) = ix2 ⟨t.val * 512 + y0, by omega⟩ y1 := by blk_ext [i4]
  refine (point2 _ _ _ _ y0 y1).trans ?_
  rw [he]
  have hm := modRow_block t y0 (by omega)
  have h0 : V5 m ρ c main_arg0 = m ((c : Thread nD τ).loc main_arg0) := W5_args m ρ c main_arg0 (by decide)
  have h2 : V5 m ρ c main_arg2 = m ((c : Thread nD τ).loc main_arg2) := W5_args m ρ c main_arg2 (by decide)
  have b0 : ∀ l, (iblk2 (V5 m ρ) c 0 t : FVec Ideal S512x1024 .bf16) (ix2 y0 l) = V5 m ρ c main_v6 (ix2 ⟨t.val * 512 + y0, by omega⟩ l) := fun l => by
    have e : (win2_0.blk t).view.emb (ix2 y0 l) = (ix2 ⟨t.val * 512 + y0, by omega⟩ l : S16384x1024.Idx) := by blk_ext [i0]
    show V5 m ρ c main_v6 ((win2_0.blk t).view.emb (ix2 y0 l)) = _
    rw [e]
  have b1 : ∀ k l, (iblk2 (V5 m ρ) c 1 t : FVec Ideal S1024x1024 .bf16) (ix2 k l) = m ((c : Thread nD τ).loc main_arg7) (ix2 k l) := fun k l => by
    have e : (win2_1.blk t).view.emb (ix2 k l) = (ix2 k l : S1024x1024.Idx) := by blk_ext [i1]
    show V5 m ρ c main_v7 ((win2_1.blk t).view.emb (ix2 k l)) = _
    rw [e]
    exact congrFun (matrix2 m ρ c) _
  have b2 : ∀ l, (iblk2 (V5 m ρ) c 2 t : FVec Ideal S512x1024 .f32) (ix2 y0 l) = m ((c : Thread nD τ).loc main_arg0) (ix2 ⟨t.val * 512 + y0, by omega⟩ l) := fun l => by
    have e : (win2_2.blk t).view.emb (ix2 y0 l) = (ix2 ⟨t.val * 512 + y0, by omega⟩ l : S16384x1024.Idx) := by blk_ext [i2]
    show V5 m ρ c main_arg0 ((win2_2.blk t).view.emb (ix2 y0 l)) = _
    rw [e, h0]
  have b3 : ∀ (s : Fin 6) l, (iblk2 (V5 m ρ) c 3 t : FVec Ideal S1x6x1024 .f32) (ix3 0 s l) = m ((c : Thread nD τ).loc main_arg2) (ix3 ⟨modRow (t.val * 512), modRow_lt ⟨t.val * 512, by omega⟩⟩ s l) := fun s l => by
    have e : (win2_3.blk t).view.emb (ix3 0 s l) = (ix3 ⟨modRow (t.val * 512), modRow_lt ⟨t.val * 512, by omega⟩⟩ s l : S8x6x1024.Idx) := by blk_ext [i3]
    show V5 m ρ c main_arg2 ((win2_3.blk t).view.emb (ix3 0 s l)) = _
    rw [e, h2]
  simp only [OUT, ix2_0, ix2_1, hm, b0, b1, b2, b3]

/-- The result as the program returns it. -/
theorem final (c : Dev nD) : W6 m ρ c (Proc.devRef .tc main_v8) = OUT (GATED (HID (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5)) (m ((c : Thread nD τ).loc main_arg6))) (m ((c : Thread nD τ).loc main_arg0)) (m ((c : Thread nD τ).loc main_arg2)) (m ((c : Thread nD τ).loc main_arg7)) := by
  rw [← found1 m ρ c, ← found2 m ρ c, ← final2 m ρ c]
  exact W6_arr m ρ c 4

end Cert.GmlpIdeal.Value

end
-- ==== Proof.GmlpIdeal.Reference.lean ====
/- The reference of the spatial gating sub-layer, read at an index in the same scalar formulas as the kernel. -/
module

public import proofs.«01_k».proof.Proof.Gen.GmlpRefIdeal.Read
public import proofs.«01_k».proof.Proof.GmlpIdeal.Final
public import Idealize.ShloMosaic.Lib.Pointwise

@[expose] public section

set_option maxRecDepth 16384
noncomputable section
open Idealize.ShloMosaic Idealize.ShloMosaic.TcCoe Idealize.SL.Sem
namespace Cert.GmlpIdeal.Reference
open Cert.GmlpIdeal.Value
open Cert.FfnSpec (modRow modRow_lt)
open Cert.GmlpRefIdeal Cert.GmlpRefIdeal.Gen Cert.GmlpRefIdeal.Read

/-- The reference cubes as `(x * x) * x`. -/
theorem gelu_cube (x : EReal) : x * (Ideal.ofBits .f32 0x3F000000#32 * (1 + Ideal.tanh (Ideal.ofBits .f32 0x3F4C422A#32 * (x + Ideal.ofBits .f32 0x3D372713#32 * (x * x * x))))) = gelu x := by
  rw [mul_comm (x * x) x]
  rfl

/-- The prompt's hidden rows. -/
theorem hid1 (x0 : FVec Ideal S16384x1024 .f32) (x1 : FVec Ideal S1024 .f32) (x2 : FVec Ideal S8x6x1024 .f32) (x3 : FVec Ideal S1024x2048 .f32)
  (b : Fin 32) (t : Fin 256) (f : Fin 2048) : val_main_v44 (F := Ideal) x0 x1 x2 x3 (ix3 b t f) =
   Value.hidden (FfnSpec.normed (fun l => x0 (ix2 ⟨b * 256 + t, by omega⟩ l)) (fun l => x1 (ix1 l)) (fun l => x2 (ix3 0 0 l)) (fun l => x2 (ix3 0 1 l))) (fun k f => x3 (ix2 k f)) f := by
  have hn : ∀ k, val_main_v27 (F := Ideal) x0 x1 x2 (ix3 b t k) = FfnSpec.normed (fun l => x0 (ix2 ⟨b * 256 + t, by omega⟩ l)) (fun l => x1 (ix1 l)) (fun l => x2 (ix3 0 0 l)) (fun l => x2 (ix3 0 1 l)) k := fun k => by
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_cst_0, val_main_cst_1, val_main_cst_2, FfnSpec.normed]
  pointwise [val_main_v31, val_main_v32, val_main_v33, val_main_v34, val_main_v35, val_main_v36, val_main_v37, val_main_v38, val_main_v39, val_main_v40, val_main_v41, val_main_v42, val_main_v43, val_main_v44, val_main_cst_3, val_main_cst_4, val_main_cst_5, val_main_cst_6, hn, Value.hidden]
  exact gelu_cube _

/-- The prompt's normed second halves. -/
theorem ln1 (x0 : FVec Ideal S16384x1024 .f32) (x1 : FVec Ideal S1024 .f32) (x2 : FVec Ideal S8x6x1024 .f32) (x3 : FVec Ideal S1024x2048 .f32) (x4 : FVec Ideal S1024 .f32)
  (b : Fin 32) (t : Fin 256) (d : Fin 1024) : val_main_v65 (F := Ideal) x0 x1 x2 x3 x4 (ix3 b t d) =
   layerNorm (fun l => val_main_v44 (F := Ideal) x0 x1 x2 x3 (ix3 b t (down l))) (fun l => x4 (ix1 l)) d := by
  pointwise [val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_cst_7, val_main_cst_8, val_main_cst_9, val_main_cst_10, val_main_cst_11, layerNorm, mean, down]

/-- The prompt's mixed rows. -/
theorem mix1 (x0 : FVec Ideal S16384x1024 .f32) (x1 : FVec Ideal S1024 .f32) (x2 : FVec Ideal S8x6x1024 .f32) (x3 : FVec Ideal S1024x2048 .f32) (x4 : FVec Ideal S1024 .f32) (x5 : FVec Ideal S8x128x128 .f32) (x6 : FVec Ideal S8x128 .f32)
  (b : Fin 32) (t : Fin 256) (d : Fin 1024) : val_main_v75 (F := Ideal) x0 x1 x2 x3 x4 x5 x6 (ix3 b t d) =
   gate (val_main_v44 (F := Ideal) x0 x1 x2 x3 (ix3 b t (up d))) (fun p l => val_main_v44 (F := Ideal) x0 x1 x2 x3 (ix3 b ⟨t / 128 * 128 + p, by omega⟩ (down l))) (fun l => x4 (ix1 l))
    (fun p => x5 (ix3 (group d) ⟨t % 128, by omega⟩ p)) (x6 (ix2 (group d) ⟨t % 128, by omega⟩)) d := by
  pointwise [val_main_v45, val_main_v66, val_main_v67, val_main_v68, val_main_v69, val_main_v70, val_main_v71, val_main_v72, val_main_v73, val_main_v74, val_main_v75, ln1, gate, up, group]

/-- The samples' hidden rows. -/
theorem hid2 (x0 : FVec Ideal S16384x1024 .f32) (x1 : FVec Ideal S1024 .f32) (x2 : FVec Ideal S8x6x1024 .f32) (x3 : FVec Ideal S1024x2048 .f32)
  (b : Fin 4) (t : Fin 2048) (f : Fin 2048) : val_main_v124 (F := Ideal) x0 x1 x2 x3 (ix3 b t f) =
   Value.hidden (FfnSpec.normed (fun l => x0 (ix2 ⟨8192 + (b * 2048 + t), by omega⟩ l)) (fun l => x1 (ix1 l)) (fun l => x2 (ix3 ⟨1 + b, by omega⟩ 0 l)) (fun l => x2 (ix3 ⟨1 + b, by omega⟩ 1 l))) (fun k f => x3 (ix2 k f)) f := by
  have hn : ∀ k, val_main_v107 (F := Ideal) x0 x1 x2 (ix3 b t k) = FfnSpec.normed (fun l => x0 (ix2 ⟨8192 + (b * 2048 + t), by omega⟩ l)) (fun l => x1 (ix1 l)) (fun l => x2 (ix3 ⟨1 + b, by omega⟩ 0 l)) (fun l => x2 (ix3 ⟨1 + b, by omega⟩ 1 l)) k := fun k => by
    pointwise [val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_cst_12, val_main_cst_13, val_main_cst_14, val_main_cst_15, FfnSpec.normed]
  pointwise [val_main_v111, val_main_v112, val_main_v113, val_main_v114, val_main_v115, val_main_v116, val_main_v117, val_main_v118, val_main_v119, val_main_v120, val_main_v121, val_main_v122, val_main_v123, val_main_v124, val_main_cst_16, val_main_cst_17, val_main_cst_18, val_main_cst_19, hn, Value.hidden]
  exact gelu_cube _

/-- The samples' normed second halves. -/
theorem ln2 (x0 : FVec Ideal S16384x1024 .f32) (x1 : FVec Ideal S1024 .f32) (x2 : FVec Ideal S8x6x1024 .f32) (x3 : FVec Ideal S1024x2048 .f32) (x4 : FVec Ideal S1024 .f32)
  (b : Fin 4) (t : Fin 2048) (d : Fin 1024) : val_main_v145 (F := Ideal) x0 x1 x2 x3 x4 (ix3 b t d) =
   layerNorm (fun l => val_main_v124 (F := Ideal) x0 x1 x2 x3 (ix3 b t (down l))) (fun l => x4 (ix1 l)) d := by
  pointwise [val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_cst_20, val_main_cst_21, val_main_cst_22, val_main_cst_23, val_main_cst_24, layerNorm, mean, down]

/-- The samples' mixed rows. -/
theorem mix2 (x0 : FVec Ideal S16384x1024 .f32) (x1 : FVec Ideal S1024 .f32) (x2 : FVec Ideal S8x6x1024 .f32) (x3 : FVec Ideal S1024x2048 .f32) (x4 : FVec Ideal S1024 .f32) (x5 : FVec Ideal S8x128x128 .f32) (x6 : FVec Ideal S8x128 .f32)
  (b : Fin 4) (t : Fin 2048) (d : Fin 1024) : val_main_v155 (F := Ideal) x0 x1 x2 x3 x4 x5 x6 (ix3 b t d) =
   gate (val_main_v124 (F := Ideal) x0 x1 x2 x3 (ix3 b t (up d))) (fun p l => val_main_v124 (F := Ideal) x0 x1 x2 x3 (ix3 b ⟨t / 128 * 128 + p, by omega⟩ (down l))) (fun l => x4 (ix1 l))
    (fun p => x5 (ix3 (group d) ⟨t % 128, by omega⟩ p)) (x6 (ix2 (group d) ⟨t % 128, by omega⟩)) d := by
  pointwise [val_main_v125, val_main_v146, val_main_v147, val_main_v148, val_main_v149, val_main_v150, val_main_v151, val_main_v152, val_main_v153, val_main_v154, val_main_v155, ln2, gate, up, group]

/-- The prompt's rows of the result. -/
theorem ref1 (x0 : FVec Ideal S16384x1024 .f32) (x1 : FVec Ideal S1024 .f32) (x2 : FVec Ideal S8x6x1024 .f32) (x3 : FVec Ideal S1024x2048 .f32) (x4 : FVec Ideal S1024 .f32) (x5 : FVec Ideal S8x128x128 .f32) (x6 : FVec Ideal S8x128 .f32) (x7 : FVec Ideal S1024x1024 .f32)
  (b : Fin 32) (t : Fin 256) (d : Fin 1024) : val_main_v79 (F := Ideal) x0 x1 x2 x3 x4 x5 x6 x7 (ix3 b t d) =
   OUT (GATED (HID x0 x1 x2 x3) x4 x5 x6) x0 x2 x7 (ix2 ⟨b * 256 + t, by omega⟩ d) := by
  have hm : ∀ s : Fin 256, modRow (b * 256 + s) = 0 := fun s => if_pos (by omega)
  have hh : ∀ (s : Fin 256) f, val_main_v44 (F := Ideal) x0 x1 x2 x3 (ix3 b s f) = HID x0 x1 x2 x3 (ix2 ⟨b * 256 + s, by omega⟩ f) := fun s f => by
    rw [hid1]
    simp only [HID, ix2_0, ix2_1, hm, Fin.zero_eta]
  have hg : ∀ k, val_main_v75 (F := Ideal) x0 x1 x2 x3 x4 x5 x6 (ix3 b t k) = GATED (HID x0 x1 x2 x3) x4 x5 x6 (ix2 ⟨b * 256 + t, by omega⟩ k) := fun k => by
    have ep : (⟨t % 128, by omega⟩ : Fin 128) = place ⟨b * 256 + t, by omega⟩ := Fin.ext (by dsimp only [place]; omega)
    have em : ∀ p : Fin 128, (⟨b * 256 + (t / 128 * 128 + p), by omega⟩ : Fin 16384) = mate ⟨b * 256 + t, by omega⟩ p := fun p => Fin.ext (by dsimp only [mate]; omega)
    rw [mix1]
    simp only [hh, ep, em]
    rfl
  pointwise [val_main_v0, val_main_v1, val_main_v2, val_main_v28, val_main_v29, val_main_v30, val_main_v76, val_main_v77, val_main_v78, val_main_v79, hg]
  simp only [OUT, ix2_0, ix2_1, hm, Fin.zero_eta]

/-- The samples' rows of the result. -/
theorem ref2 (x0 : FVec Ideal S16384x1024 .f32) (x1 : FVec Ideal S1024 .f32) (x2 : FVec Ideal S8x6x1024 .f32) (x3 : FVec Ideal S1024x2048 .f32) (x4 : FVec Ideal S1024 .f32) (x5 : FVec Ideal S8x128x128 .f32) (x6 : FVec Ideal S8x128 .f32) (x7 : FVec Ideal S1024x1024 .f32)
  (b : Fin 4) (t : Fin 2048) (d : Fin 1024) : val_main_v159 (F := Ideal) x0 x1 x2 x3 x4 x5 x6 x7 (ix3 b t d) =
   OUT (GATED (HID x0 x1 x2 x3) x4 x5 x6) x0 x2 x7 (ix2 ⟨8192 + (b * 2048 + t), by omega⟩ d) := by
  have hm : ∀ s : Fin 2048, modRow (8192 + (b * 2048 + s)) = 1 + b := fun s => (if_neg (by omega)).trans (by omega)
  have hh : ∀ (s : Fin 2048) f, val_main_v124 (F := Ideal) x0 x1 x2 x3 (ix3 b s f) = HID x0 x1 x2 x3 (ix2 ⟨8192 + (b * 2048 + s), by omega⟩ f) := fun s f => by
    rw [hid2]
    simp only [HID, ix2_0, ix2_1, hm]
  have hg : ∀ k, val_main_v155 (F := Ideal) x0 x1 x2 x3 x4 x5 x6 (ix3 b t k) = GATED (HID x0 x1 x2 x3) x4 x5 x6 (ix2 ⟨8192 + (b * 2048 + t), by omega⟩ k) := fun k => by
    have ep : (⟨t % 128, by omega⟩ : Fin 128) = place ⟨8192 + (b * 2048 + t), by omega⟩ := Fin.ext (by dsimp only [place]; omega)
    have em : ∀ p : Fin 128, (⟨8192 + (b * 2048 + (t / 128 * 128 + p)), by omega⟩ : Fin 16384) = mate ⟨8192 + (b * 2048 + t), by omega⟩ p := fun p => Fin.ext (by dsimp only [mate]; omega)
    rw [mix2]
    simp only [hh, ep, em]
    rfl
  pointwise [val_main_v80, val_main_v81, val_main_v82, val_main_v108, val_main_v109, val_main_v110, val_main_v156, val_main_v157, val_main_v158, val_main_v159, hg]
  simp only [OUT, ix2_0, ix2_1, hm]

/-- The reference's result is the layer's result. -/
theorem ref (x0 : FVec Ideal S16384x1024 .f32) (x1 : FVec Ideal S1024 .f32) (x2 : FVec Ideal S8x6x1024 .f32) (x3 : FVec Ideal S1024x2048 .f32) (x4 : FVec Ideal S1024 .f32) (x5 : FVec Ideal S8x128x128 .f32) (x6 : FVec Ideal S8x128 .f32) (x7 : FVec Ideal S1024x1024 .f32) :
   val_main_v162 (F := Ideal) x0 x1 x2 x3 x4 x5 x6 x7 = OUT (GATED (HID x0 x1 x2 x3) x4 x5 x6) x0 x2 x7 := by
  generalize hO : OUT (GATED (HID x0 x1 x2 x3) x4 x5 x6) x0 x2 x7 = o
  have r1 := ref1 x0 x1 x2 x3 x4 x5 x6 x7
  have r2 := ref2 x0 x1 x2 x3 x4 x5 x6 x7
  rw [hO] at r1 r2
  funext i
  idx_vars i
  pointwise [val_main_v162, val_main_v160, val_main_v161, r1, r2]
  by_cases h : (i0 : ℕ) < 8192
  · rw [dif_pos h]
    have e : (i0 : ℕ) / 256 * 256 + (i0 : ℕ) % 256 = i0 := by omega
    simp only [e, Fin.eta]
  · rw [dif_neg h]
    have e : 8192 + (((i0 : ℕ) - 8192) / 2048 * 2048 + ((i0 : ℕ) - 8192) % 2048) = i0 := by omega
    simp only [e, Fin.eta]

end Cert.GmlpIdeal.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.ReferenceIdeal.Run
public import proofs.«01_k».proof.Proof.Gen.ReferenceIdeal.Read
public import proofs.«01_k».proof.Proof.Gen.FfnRefIdeal.Run
public import proofs.«01_k».proof.Proof.Gen.FfnRefIdeal.Read
public import proofs.«01_k».proof.Proof.KernelIdeal.Value
public import proofs.«01_k».proof.Proof.KernelIdeal.Reference
public import proofs.«01_k».proof.Proof.KernelIdeal.Finite
public import proofs.«01_k».proof.Proof.FfnIdeal.Value
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_experts_in_range
public import proofs.«01_k».proof.Proof.Experts.Table
public import proofs.«01_k».proof.Proof.Experts.Range
public import proofs.«01_k».proof.Proof.ExpertsIdeal.Reference
public import proofs.«01_k».proof.Proof.ExpertsIdeal.Final
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.QkvRefIdeal.Read
public import proofs.«01_k».proof.Proof.QkvIdeal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.NormRefIdeal.Read
public import proofs.«01_k».proof.Proof.NormIdeal.Value
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpRefIdeal
public import proofs.«01_k».proof.Proof.Gen.GmlpRefIdeal.Run
public import proofs.«01_k».proof.Proof.Gen.GmlpRefIdeal.Read
public import proofs.«01_k».proof.Proof.GmlpIdeal.Reference
public import Idealize.ShloMosaic.Adequacy
public import Idealize.ShloMosaic.Init

@[expose] public section

noncomputable section

namespace Cert.Proof

open Idealize.ShloMosaic Idealize.SL.Sem Cert.Kernel

/-- The attention's reference runs and leaves its arguments. -/
theorem refFrame : Cert.quiescent_ReferenceIdeal := by
  intro m g _
  refine (θ_run _ _ _).mono (fun r h => ⟨fun c => (h c).2, sem_eq_zero_of_no_sems (by decide) r.2⟩) (Cert.ReferenceIdeal.Value.run m g)

/-- The feed-forward's reference runs and leaves its arguments. -/
theorem ffnRefFrame : Cert.quiescent_FfnRefIdeal := by
  intro m g _
  refine (θ_run _ _ _).mono (fun r h => ⟨fun c => (h c).2, sem_eq_zero_of_no_sems (by decide) r.2⟩) (Cert.FfnRefIdeal.Value.run m g)

/-- On finite queries, keys and values the attention kernel computes its reference. -/
theorem attention : Cert.algebraic_KernelIdeal_ReferenceIdeal_pre_qkv_is_finite := by
  pair_intro
  · run_from Cert.KernelIdeal.Gen.run_main m g
  · refine (θ_run _ _ _).mono (fun r h c => ⟨(h c).1.trans ?_, (h c).2⟩) (Cert.ReferenceIdeal.Value.run m' g')
    obtain ⟨e0, e1, e2⟩ := hagree c
    rw [Cert.ReferenceIdeal.Read.val_main_v63_eq, e0, e1, e2]
    exact (Cert.KernelIdeal.Ref.ref _ _ _).trans (Cert.KernelIdeal.Value.final m c (fun i => Cert.KernelIdeal.Finite.real _ _ _ (hpre c) i)).symm

/-- The feed-forward kernel computes its reference. -/
theorem ffn : Cert.algebraic_FfnIdeal_FfnRefIdeal := by
  pair_intro
  · run_from Cert.FfnIdeal.Gen.run_main m g
  · refine (θ_run _ _ _).mono (fun r h c => ⟨(h c).1.trans ?_, (h c).2⟩) (Cert.FfnRefIdeal.Value.run m' g')
    obtain ⟨e0, e1, e2, e3, e4⟩ := hagree c
    rw [Cert.FfnRefIdeal.Read.val_main_v82_eq, e0, e1, e2, e3, e4]
    exact (Cert.FfnIdeal.Value.ref _ _ _ _ _).trans (Cert.FfnIdeal.Value.final m c).symm

/-- The experts' call runs and leaves its arguments, where every tile names an expert. -/
theorem expertsFrame : Cert.quiescent_Experts := by
  intro m g hp
  exact (θ_run _ _ _).mono (fun r h => ⟨fun c => (h.1 c).2, h.2⟩)
    (Cert.Experts.Hand.result m g (Cert.Experts.Hand.ok_of_range m (fun i => Cert.Pre_experts_in_range.in_range _ _ _ _ _ (hp 0) i)))

/-- So does its idealization. -/
theorem expertsIdealFrame : Cert.quiescent_ExpertsIdeal := by
  intro m g hp
  exact (θ_run _ _ _).mono (fun r h => ⟨fun c => (h.1 c).2, h.2⟩)
    (Cert.ExpertsIdeal.Hand.result m g (Cert.ExpertsIdeal.Hand.ok_of_range m (fun i => Cert.Pre_experts_in_range.in_range _ _ _ _ _ (hp 0) i)))

/-- The experts' reference runs and leaves its arguments. -/
theorem expertsRefFrame : Cert.quiescent_ExpertsRefIdeal := by
  intro m g _
  refine (θ_run _ _ _).mono (fun r h => ⟨fun c => (h c).2, sem_eq_zero_of_no_sems (by decide) r.2⟩) (Cert.ExpertsRefIdeal.Value.run m g)

/-- Where every tile names an expert the experts' kernel computes its reference. -/
theorem experts : Cert.algebraic_ExpertsIdeal_ExpertsRefIdeal := by
  intro m g m' g' hpre hagree
  have hr : Cert.ExpertsIdeal.Hand.InRange m := fun i => Cert.Pre_experts_in_range.in_range _ _ _ _ _ (hpre 0) i
  have hO := Cert.ExpertsIdeal.Hand.ok_of_range m hr
  refine ⟨fun c => (Cert.ExpertsIdeal.Hand.dats m hO 0 c).arrAt 3 (Cert.ExpertsIdeal.Hand.cfgM m hO).N, ?_, ?_⟩
  · exact (θ_run _ _ _).mono (fun r h c => h.1 c) (Cert.ExpertsIdeal.Hand.result m g hO)
  · refine (θ_run _ _ _).mono (fun r h c => ⟨(h c).1.trans ?_, (h c).2⟩) (Cert.ExpertsRefIdeal.Value.run m' g')
    obtain ⟨e0, e1, e2, e3, e4⟩ := hagree c
    obtain rfl : c = 0 := Subsingleton.elim _ _
    rw [Cert.ExpertsRefIdeal.Read.val_main_v33_eq, e0, e1, e2, e3, e4]
    exact (Cert.ExpertsIdeal.Reference.ref _ _ hr _ _ _).trans (Cert.ExpertsIdeal.Value.final m hr 0).symm

/-- The projection's reference runs and leaves its arguments. -/
theorem qkvRefFrame : Cert.quiescent_QkvRefIdeal := by
  intro m g _
  refine (θ_run _ _ _).mono (fun r h => ⟨fun c => (h c).2.2.2, sem_eq_zero_of_no_sems (by decide) r.2⟩) (Cert.QkvRefIdeal.Value.run m g)

/-- The norms' reference runs and leaves its arguments. -/
theorem normRefFrame : Cert.quiescent_NormRefIdeal := by
  intro m g _
  refine (θ_run _ _ _).mono (fun r h => ⟨fun c => (h c).2.2, sem_eq_zero_of_no_sems (by decide) r.2⟩) (Cert.NormRefIdeal.Value.run m g)

/-- The projection kernel computes its reference: the rows, and the keys and values returned beside them. -/
theorem qkv : Cert.algebraic_QkvIdeal_QkvRefIdeal := by
  pair_intro
  · run_from Cert.QkvIdeal.Gen.run_main m g
    · exact Cert.QkvIdeal.Gen.W_main_arg1 m _ c
    · exact Cert.QkvIdeal.Gen.W_main_arg3 m _ c
  · refine (θ_run _ _ _).mono (fun r h c => ?_) (Cert.QkvRefIdeal.Value.run m' g')
    have ha := (h c).2.2.2
    replace h := h c
    obtain ⟨e0, e1, e2, e3⟩ := hagree c
    rw [Cert.QkvRefIdeal.Read.val_main_v66_eq, Cert.QkvRefIdeal.Read.val_main_v67_eq, Cert.QkvRefIdeal.Read.val_main_v68_eq, e0, e1, e2, e3] at h
    exact ⟨h.1.trans ((Cert.QkvIdeal.Value.ref _ _ _ _).trans (Cert.QkvIdeal.Value.final m c).symm),
      h.2.1.trans (Cert.QkvIdeal.Value.keys m c), h.2.2.1.trans (Cert.QkvIdeal.Value.values m c), ha⟩

/-- The final norms compute their reference. -/
theorem norm : Cert.algebraic_NormIdeal_NormRefIdeal := by
  pair_intro
  · exact Cert.NormIdeal.Value.run m g
  · refine (θ_run _ _ _).mono (fun r h c => ?_) (Cert.NormRefIdeal.Value.run m' g')
    have ha := (h c).2.2
    replace h := h c
    obtain ⟨e0, e1⟩ := hagree c
    rw [Cert.NormRefIdeal.Read.val_main_v14_eq, Cert.NormRefIdeal.Read.val_main_v29_eq, e0, e1] at h
    exact ⟨h.1.trans (Cert.NormIdeal.Value.same0 m g c), h.2.1.trans (Cert.NormIdeal.Value.same1 m g c), ha⟩

/-- The spatial gating's reference runs and leaves its arguments. -/
theorem gmlpRefFrame : Cert.quiescent_GmlpRefIdeal := by
  intro m g _
  refine (θ_run _ _ _).mono (fun r h => ⟨fun c => (h c).2, sem_eq_zero_of_no_sems (by decide) r.2⟩) (Cert.GmlpRefIdeal.Value.run m g)

/-- The three launches of the spatial gating compute their reference. -/
theorem gmlp : Cert.algebraic_GmlpIdeal_GmlpRefIdeal := by
  pair_intro
  · exact Cert.GmlpIdeal.Value.run m g
  · refine (θ_run _ _ _).mono (fun r h c => ⟨(h c).1.trans ?_, (h c).2⟩) (Cert.GmlpRefIdeal.Value.run m' g')
    obtain ⟨e0, e1, e2, e3, e4, e5, e6, e7⟩ := hagree c
    rw [Cert.GmlpRefIdeal.Read.val_main_v162_eq]
    simp only [StableHlo.launchContents_devRef, e0, e1, e2, e3, e4, e5, e6, e7]
    exact (Cert.GmlpIdeal.Reference.ref _ _ _ _ _ _ _ _).trans (Cert.GmlpIdeal.Value.final m g c).symm

/-- The certificate: the frames, the idealizations and the value claims of the six calls. -/
theorem claim : Cert.Claim := ⟨Cert.Kernel.Gen.facts, Cert.KernelIdeal.Gen.facts, Cert.ReferenceIdeal.Gen.facts, Cert.Experts.Gen.facts, Cert.ExpertsIdeal.Gen.facts, Cert.ExpertsRefIdeal.Gen.facts, Cert.Ffn.Gen.facts, Cert.FfnIdeal.Gen.facts, Cert.FfnRefIdeal.Gen.facts, Cert.Qkv.Gen.facts, Cert.QkvIdeal.Gen.facts, Cert.QkvRefIdeal.Gen.facts, Cert.Norm.Gen.facts, Cert.NormIdeal.Gen.facts, Cert.NormRefIdeal.Gen.facts, Cert.Gmlp.Gen.facts, Cert.GmlpIdeal.Gen.facts, Cert.GmlpRefIdeal.Gen.facts, Cert.KernelIdeal.Finite.facts, Cert.Pre_experts_in_range.Gen.facts,
  fun m g _ => Cert.Kernel.Gen.frame m g, fun m g _ => Cert.KernelIdeal.Gen.frame m g, fun m g _ => Cert.KernelIdeal.Gen.frame m g, refFrame, fun m g _ => refFrame m g trivial,
  expertsFrame, expertsIdealFrame, expertsRefFrame, fun m g _ => expertsRefFrame m g trivial,
  fun m g _ => Cert.Ffn.Gen.frame m g, fun m g _ => Cert.FfnIdeal.Gen.frame m g, ffnRefFrame,
  fun m g _ => Cert.Qkv.Gen.frame m g, fun m g _ => Cert.QkvIdeal.Gen.frame m g, qkvRefFrame,
  fun m g _ => Cert.Norm.Gen.frame m g, fun m g _ => Cert.NormIdeal.Gen.frame m g, normRefFrame,
  fun m g _ => Cert.Gmlp.Gen.frame m g, fun m g _ => Cert.GmlpIdeal.Gen.frame m g, gmlpRefFrame,
  trivial, attention, trivial, experts, trivial, ffn, trivial, qkv, trivial, norm, trivial, gmlp⟩

end Cert.Proof

end
